-- ==== Defs.lean ====
def Pre_Kernel [hPre_targets_in_range : Cert.Pre_targets_in_range.Facts] (m : (ℓ : Loc Cert.Kernel.nD Cert.Kernel.τ Cert.Kernel.sig) → Buf (Elt Bits) ℓ) : Prop :=
  ∀ c : Dev Cert.Kernel.nD,
    (Cert.Pre_targets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] [hPre_targets_in_range : Cert.Pre_targets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "conf" .f32 0x3F666666#32 ((9 / 10 : ℝ) : EReal)
  ∧ IdealRules.named_const.Statement Cert.KernelIdeal.κ "entropy" .f32 0xBF9F801B#32 (((1 / 10) * (Real.log (387420489 / 99980000000000)) : ℝ) : EReal)
  ∧ IdealRules.named_const.Statement Cert.KernelIdeal.κ "smooth" .f32 0x3727CE44#32 ((1 / 99980 : ℝ) : EReal)
  ∧ IdealRules.named_const.Statement Cert.KernelIdeal.κ "mask" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_targets_in_range : Cert.Pre_targets_in_range.Facts) (hPre_in_range : Cert.Pre_in_range.Facts),
    quiescent_Kernel (hKernel := hKernel) (hPre_targets_in_range := hPre_targets_in_range)
    ∧ quiescent_KernelIdeal (hKernelIdeal := hKernelIdeal) (hPre_targets_in_range := hPre_targets_in_range)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32x64x10000 : Shape := ⟨3, ![32, 64, 10000]⟩
abbrev S32x64 : Shape := ⟨2, ![32, 64]⟩
abbrev S256x32x10000 : Shape := ⟨3, ![256, 32, 10000]⟩
abbrev S32 : Shape := ⟨1, ![32]⟩
abbrev S_ : Shape := ⟨0, ![]⟩

class Facts : Prop where
  bcast_S_S32x64 : S_.BroadcastsInDim S32x64 (![] : Fin 0 → Fin S32x64.rank)
  bcast_S_S32 : S_.BroadcastsInDim S32 (![] : Fin 0 → Fin S32.rank)
  bcast_S_S32x64x10000 : S_.BroadcastsInDim S32x64x10000 (![] : Fin 0 → Fin S32x64x10000.rank)

variable [Facts]

def fn_part1 {F : FTy → Type} [FloatOps F] (main_v4 : IVec S32x64 1) (main_v9 : IVec S32x64 1) (main_v14 : IVec S32 1) (main_v15 : FVec F S32x64x10000 .f32) (main_v16 : FVec F S32x64x10000 .f32) : IVec S32x64 1 × IVec S32x64 1 × IVec S32 1 × IVec S32x64x10000 1 :=
  let main_v17 : IVec S32x64x10000 1 := cmpf .olt main_v15 main_v16
  (main_v4, main_v9, main_v14, main_v17)

def fn {F : FTy → Type} [FloatOps F] (main_arg0 : FVec F S32x64x10000 .f32) (main_arg1 : IVec S32x64 32) (main_arg2 : FVec F S256x32x10000 .f32) (main_arg3 : IVec S32x64 32) (main_arg4 : IVec S32 32) (main_arg5 : IVec S32 32) : IVec S32x64 1 × IVec S32x64 1 × IVec S32 1 × IVec S32x64x10000 1 :=
  let main_c : IVec S_ 32 := constantI S_ 32 0#32
  let main_v0 : IVec S32x64 32 := broadcastInDim S32x64 ![] bcast_S_S32x64 main_c
  let main_v1 : IVec S32x64 1 := cmpi .sge main_arg1 main_v0
  let main_c_0 : IVec S_ 32 := constantI S_ 32 10000#32
  let main_v2 : IVec S32x64 32 := broadcastInDim S32x64 ![] bcast_S_S32x64 main_c_0
  let main_v3 : IVec S32x64 1 := cmpi .slt main_arg1 main_v2
  let main_v4 : IVec S32x64 1 := andi main_v1 main_v3
  let main_c_1 : IVec S_ 32 := constantI S_ 32 0#32
  let main_v5 : IVec S32x64 32 := broadcastInDim S32x64 ![] bcast_S_S32x64 main_c_1
  let main_v6 : IVec S32x64 1 := cmpi .sge main_arg3 main_v5
  let main_c_2 : IVec S_ 32 := constantI S_ 32 9999#32
  let main_v7 : IVec S32x64 32 := broadcastInDim S32x64 ![] bcast_S_S32x64 main_c_2
  let main_v8 : IVec S32x64 1 := cmpi .slt main_arg3 main_v7
  let main_v9 : IVec S32x64 1 := andi main_v6 main_v8
  let main_c_3 : IVec S_ 32 := constantI S_ 32 1#32
  let main_v10 : IVec S32 32 := broadcastInDim S32 ![] bcast_S_S32 main_c_3
  let main_v11 : IVec S32 1 := cmpi .sge main_arg5 main_v10
  let main_c_4 : IVec S_ 32 := constantI S_ 32 64#32
  let main_v12 : IVec S32 32 := broadcastInDim S32 ![] bcast_S_S32 main_c_4
  let main_v13 : IVec S32 1 := cmpi .sle main_arg5 main_v12
  let main_v14 : IVec S32 1 := andi main_v11 main_v13
  let main_v15 : FVec F S32x64x10000 .f32 := Host.absf main_arg0
  let main_cst : FVec F S_ .f32 := constant S_ .f32 0x7F800000#32
  let main_v16 : FVec F S32x64x10000 .f32 := broadcastInDim S32x64x10000 ![] bcast_S_S32x64x10000 main_cst
  fn_part1 (F := F) main_v4 main_v9 main_v14 main_v15 main_v16
-- ==== Pre_targets_in_range.lean ====
abbrev S32x64x10000 : Shape := ⟨3, ![32, 64, 10000]⟩
abbrev S32x64 : Shape := ⟨2, ![32, 64]⟩
abbrev S256x32x10000 : Shape := ⟨3, ![256, 32, 10000]⟩
abbrev S32 : Shape := ⟨1, ![32]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : FVec F S32x64x10000 .f32) (main_arg1 : IVec S32x64 32) (main_arg2 : FVec F S256x32x10000 .f32) (main_arg3 : IVec S32x64 32) (main_arg4 : IVec S32 32) (main_arg5 : IVec S32 32) : IVec S32x64 1 :=
  let main_c : IVec S_ 32 := constantI S_ 32 0#32
  let main_v0 : IVec S32x64 32 := broadcastInDim S32x64 ![] bcast_S_S32x64 main_c
  let main_v1 : IVec S32x64 1 := cmpi .sge main_arg3 main_v0
  let main_c_0 : IVec S_ 32 := constantI S_ 32 9999#32
  let main_v2 : IVec S32x64 32 := broadcastInDim S32x64 ![] bcast_S_S32x64 main_c_0
  let main_v3 : IVec S32x64 1 := cmpi .slt main_arg3 main_v2
  let main_v4 : IVec S32x64 1 := andi main_v1 main_v3
  main_v4
-- ==== Kernel.lean ====
abbrev S32x64x10000 : Shape := ⟨3, ![32, 64, 10000]⟩
abbrev S32x64 : Shape := ⟨2, ![32, 64]⟩
abbrev S256x32x10000 : Shape := ⟨3, ![256, 32, 10000]⟩
abbrev S32 : Shape := ⟨1, ![32]⟩
abbrev S32x10000x256 : Shape := ⟨3, ![32, 10000, 256]⟩
abbrev S32x1250x8x2x128 : Shape := ⟨5, ![32, 1250, 8, 2, 128]⟩
abbrev S32x1250x2x8x128 : Shape := ⟨5, ![32, 1250, 2, 8, 128]⟩
abbrev S81920000 : Shape := ⟨1, ![81920000]⟩
abbrev S655360 : Shape := ⟨1, ![655360]⟩
abbrev S20480 : Shape := ⟨1, ![20480]⟩
abbrev S_ : Shape := ⟨0, ![]⟩
abbrev S1x16 : Shape := ⟨2, ![1, 16]⟩
abbrev S16 : Shape := ⟨1, ![16]⟩
abbrev S256x32x80 : Shape := ⟨3, ![256, 32, 80]⟩
abbrev S2048x10000 : Shape := ⟨2, ![2048, 10000]⟩
abbrev S2048 : Shape := ⟨1, ![2048]⟩
abbrev S16x128x1 : Shape := ⟨3, ![16, 128, 1]⟩
abbrev S1x1 : Shape := ⟨2, ![1, 1]⟩
abbrev S128x10000 : Shape := ⟨2, ![128, 10000]⟩
abbrev S1x128x1 : Shape := ⟨3, ![1, 128, 1]⟩
abbrev S128x1 : Shape := ⟨2, ![128, 1]⟩
abbrev S128 : Shape := ⟨1, ![128]⟩
abbrev S1 : Shape := ⟨1, ![1]⟩
abbrev S1x1x1 : Shape := ⟨3, ![1, 1, 1]⟩
abbrev S32x1 : Shape := ⟨2, ![32, 1]⟩
abbrev S32x63 : Shape := ⟨2, ![32, 63]⟩
abbrev S1x32x80 : Shape := ⟨3, ![1, 32, 80]⟩
abbrev S32x80 : Shape := ⟨2, ![32, 80]⟩
abbrev S32x65 : Shape := ⟨2, ![32, 65]⟩
abbrev S1x32x1 : Shape := ⟨3, ![1, 32, 1]⟩

abbrev nBuf : Table → Nat
  | .hbm => 26
  | .local .tc .vmem => 8
  | .local .tc .smem => 2
  | .local .scVector .vmem => 3
  | _ => 0

abbrev bufTy : (tb : Table) → Fin (nBuf tb) → BufTy
  | .hbm, ⟨0, _⟩ => ⟨S32x64x10000, .f32⟩
  | .hbm, ⟨1, _⟩ => ⟨S32x64, .i32⟩
  | .hbm, ⟨2, _⟩ => ⟨S256x32x10000, .f32⟩
  | .hbm, ⟨3, _⟩ => ⟨S32x64, .i32⟩
  | .hbm, ⟨4, _⟩ => ⟨S32, .i32⟩
  | .hbm, ⟨5, _⟩ => ⟨S32, .i32⟩
  | .hbm, ⟨6, _⟩ => ⟨S32x10000x256, .f32⟩
  | .hbm, ⟨7, _⟩ => ⟨S32x1250x8x2x128, .f32⟩
  | .hbm, ⟨8, _⟩ => ⟨S32x1250x2x8x128, .f32⟩
  | .hbm, ⟨9, _⟩ => ⟨S81920000, .f32⟩
  | .hbm, ⟨10, _⟩ => ⟨S655360, .f32⟩
  | .hbm, ⟨11, _⟩ => ⟨S256x32x80, .f32⟩
  | .hbm, ⟨12, _⟩ => ⟨S2048x10000, .f32⟩
  | .hbm, ⟨13, _⟩ => ⟨S2048, .i32⟩
  | .hbm, ⟨14, _⟩ => ⟨S16x128x1, .i32⟩
  | .hbm, ⟨15, _⟩ => ⟨S1x1, .f32⟩
  | .hbm, ⟨16, _⟩ => ⟨S_, .f32⟩
  | .hbm, ⟨17, _⟩ => ⟨S32x1, .i32⟩
  | .hbm, ⟨18, _⟩ => ⟨S32x1, .i32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local .tc .vmem, ⟨0, _⟩ => ⟨S128x10000, .f32⟩
  | .local .tc .vmem, ⟨1, _⟩ => ⟨S128x10000, .f32⟩
  | .local .tc .vmem, ⟨2, _⟩ => ⟨S1x128x1, .i32⟩
  | .local .tc .vmem, ⟨3, _⟩ => ⟨S1x128x1, .i32⟩
  | .local .tc .vmem, ⟨4, _⟩ => ⟨S256x32x80, .f32⟩
  | .local .tc .vmem, ⟨5, _⟩ => ⟨S32x64, .i32⟩
  | .local .tc .vmem, ⟨6, _⟩ => ⟨S32x1, .i32⟩
  | .local .tc .vmem, ⟨7, _⟩ => ⟨S32x1, .i32⟩
  | .local .tc .smem, ⟨0, _⟩ => ⟨S1x1, .f32⟩
  | .local .tc .smem, ⟨1, _⟩ => ⟨S1x1, .f32⟩
  | .local .scVector .vmem, ⟨0, _⟩ => ⟨S32x64, .i32⟩
  | .local .scVector .vmem, ⟨1, _⟩ => ⟨S20480, .i32⟩
  | .local .scVector .vmem, ⟨2, _⟩ => ⟨S20480, .f32⟩
  | _, _ => ⟨S32x64x10000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v3_scv : Ref sig .scVector := ⟨.hbm, 9, rfl⟩
abbrev main_arg3_scv : Ref sig .scVector := ⟨.hbm, 3, rfl⟩
abbrev main_v4_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc1_stg2_0 : Ref sig .tc := ⟨.smem, 0, rfl⟩
abbrev cc2_stg4_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c256_i32_1 : BitVec 32 := 256#32
  let v3 : BitVec 32 := Scalar.addi c0_i32_0 c256_i32_1
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_0 : BitVec 32 := 0#32
  let c1_i32 : BitVec 32 := 1#32
  let arg9 : BitVec 32 := Scf.iv c0_i32_0 c1_i32 k0_t1
  let v7 : BitVec 32 := Scalar.addi v2 arg9
  let c32_i32_5 : BitVec 32 := 32#32
  let v9 : BitVec 32 := Scalar.remsi v7 c32_i32_5
  let v16 : Index := Scalar.indexCast v9
  let c0 : Index := 0#32
  ![v16.toNat, 0]
def k0_off2 (k0_t1 : Fin k0_t1_loop.trips) (c0_i32_9 : BitVec 32) : Fin 1 → Nat :=
  let c0_i32_0 : BitVec 32 := 0#32
  let c1_i32 : BitVec 32 := 1#32
  let arg9 : BitVec 32 := Scf.iv c0_i32_0 c1_i32 k0_t1
  let c80_i32_8 : BitVec 32 := 80#32
  let v30 : BitVec 32 := Scalar.muli arg9 c80_i32_8
  let v31 : BitVec 32 := Scalar.addi v30 c0_i32_9
  let v32 : Index := Scalar.indexCast v31
  ![v32.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_0 : BitVec 32 := 0#32
  let c1_i32 : BitVec 32 := 1#32
  let arg9 : BitVec 32 := Scf.iv c0_i32_0 c1_i32 k0_t1
  let v7 : BitVec 32 := Scalar.addi v2 arg9
  let c32_i32_5 : BitVec 32 := 32#32
  let v9 : BitVec 32 := Scalar.remsi v7 c32_i32_5
  let v36 : Index := Scalar.indexCast v9
  let c16 : Index := 16#32
  ![v36.toNat, 16]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_0 : BitVec 32 := 0#32
  let c1_i32 : BitVec 32 := 1#32
  let arg9 : BitVec 32 := Scf.iv c0_i32_0 c1_i32 k0_t1
  let v7 : BitVec 32 := Scalar.addi v2 arg9
  let c32_i32_5 : BitVec 32 := 32#32
  let v9 : BitVec 32 := Scalar.remsi v7 c32_i32_5
  let v56 : Index := Scalar.indexCast v9
  let c32 : Index := 32#32
  ![v56.toNat, 32]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_0 : BitVec 32 := 0#32
  let c1_i32 : BitVec 32 := 1#32
  let arg9 : BitVec 32 := Scf.iv c0_i32_0 c1_i32 k0_t1
  let v7 : BitVec 32 := Scalar.addi v2 arg9
  let c32_i32_5 : BitVec 32 := 32#32
  let v9 : BitVec 32 := Scalar.remsi v7 c32_i32_5
  let v76 : Index := Scalar.indexCast v9
  let c48 : Index := 48#32
  ![v76.toNat, 48]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c80_i32 : BitVec 32 := 80#32
  let v6 : BitVec 32 := Scalar.muli v2 c80_i32
  ![v6.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

@[reducible] def k2_t1_loop : Scf.Loop 32 :=
  let c1_i32 : BitVec 32 := 1#32
  let c255_i32 : BitVec 32 := 255#32
  let v25 : BitVec 32 := Scalar.addi c1_i32 c255_i32
  let c1_i32_10 : BitVec 32 := 1#32
  ⟨c1_i32, v25, c1_i32_10⟩
def k2_off1 (k2_t1 : Fin k2_t1_loop.trips) : Fin 3 → Nat :=
  let c1_i32 : BitVec 32 := 1#32
  let c1_i32_10 : BitVec 32 := 1#32
  let arg5 : BitVec 32 := Scf.iv c1_i32 c1_i32_10 k2_t1
  let v61 : Index := Scalar.indexCast arg5
  let c0_22 : Index := 0#32
  let c0_23 : Index := 0#32
  ![v61.toNat, 0, 0]
abbrev stage2_0 : Fin 1 → Memref sig .tc .vmem S256x32x80 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x64 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .smem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "conf" => some ((9 / 10 : ℝ) : EReal)
  | "entropy" => some (((1 / 10) * (Real.log (387420489 / 99980000000000)) : ℝ) : EReal)
  | "mask" => some ⊥
  | "smooth" => some ((1 / 99980 : ℝ) : EReal)
  | _ => none
-- ==== ReferenceIdeal.lean ====
abbrev S32x64x10000 : Shape := ⟨3, ![32, 64, 10000]⟩
abbrev S32x64 : Shape := ⟨2, ![32, 64]⟩
abbrev S256x32x10000 : Shape := ⟨3, ![256, 32, 10000]⟩
abbrev S32 : Shape := ⟨1, ![32]⟩
abbrev S_ : Shape := ⟨0, ![]⟩
abbrev S32x64x1 : Shape := ⟨3, ![32, 64, 1]⟩
abbrev S32x64x2 : Shape := ⟨3, ![32, 64, 2]⟩
abbrev S32x128 : Shape := ⟨2, ![32, 128]⟩
abbrev S32x1 : Shape := ⟨2, ![32, 1]⟩
abbrev S32x129 : Shape := ⟨2, ![32, 129]⟩
abbrev S1x32x129 : Shape := ⟨3, ![1, 32, 129]⟩
abbrev S256x32x129 : Shape := ⟨3, ![256, 32, 129]⟩
abbrev S256x32x129x1 : Shape := ⟨4, ![256, 32, 129, 1]⟩
abbrev S1 : Shape := ⟨1, ![1]⟩
abbrev S1x1x1x1 : Shape := ⟨4, ![1, 1, 1, 1]⟩
abbrev S32x2 : Shape := ⟨2, ![32, 2]⟩
abbrev S32x127 : Shape := ⟨2, ![32, 127]⟩
abbrev S255 : Shape := ⟨1, ![255]⟩
abbrev S255x32x129 : Shape := ⟨3, ![255, 32, 129]⟩
abbrev S32x2x1 : Shape := ⟨3, ![32, 2, 1]⟩
abbrev S32x640000 : Shape := ⟨2, ![32, 640000]⟩

abbrev nBuf : Space → Nat
  | .hbm => 212
  | .vmem => 0
  | .smem => 0
  | _ => 0

abbrev hbmTy0_0 (i : Nat) : BufTy := match i % 128 with
  | 0 => ⟨S32x64x10000, .f32⟩
  | 1 => ⟨S32x64, .i32⟩
  | 2 => ⟨S256x32x10000, .f32⟩
  | 3 => ⟨S32x64, .i32⟩
  | 4 => ⟨S32, .i32⟩
  | 5 => ⟨S32, .i32⟩
  | 6 => ⟨S_, .i32⟩
  | 7 => ⟨S32x64, .i32⟩
  | 8 => ⟨S32x64x1, .i32⟩
  | 9 => ⟨S32x64x1, .i32⟩
  | 10 => ⟨S32x64x2, .i32⟩
  | 11 => ⟨S32x128, .i32⟩
  | 12 => ⟨S32x1, .i32⟩
  | 13 => ⟨S32x129, .i32⟩
  | 14 => ⟨S1x32x129, .i32⟩
  | 15 => ⟨S256x32x129, .i32⟩
  | 16 => ⟨S_, .i32⟩
  | 17 => ⟨S256x32x129, .i32⟩
  | 18 => ⟨S256x32x129, .i1⟩
  | 19 => ⟨S_, .i32⟩
  | 20 => ⟨S256x32x129, .i32⟩
  | 21 => ⟨S256x32x129, .i32⟩
  | 22 => ⟨S256x32x129, .i32⟩
  | 23 => ⟨S256x32x129x1, .i32⟩
  | 24 => ⟨S1, .i32⟩
  | 25 => ⟨S_, .i32⟩
  | 26 => ⟨S256x32x129x1, .i32⟩
  | 27 => ⟨S256x32x129x1, .i1⟩
  | 28 => ⟨S1x1x1x1, .i32⟩
  | 29 => ⟨S256x32x129x1, .i32⟩
  | 30 => ⟨S256x32x129x1, .i1⟩
  | 31 => ⟨S256x32x129x1, .i1⟩
  | 32 => ⟨S_, .i1⟩
  | 33 => ⟨S256x32x129, .i1⟩
  | 34 => ⟨S256x32x129, .f32⟩
  | 35 => ⟨S_, .f32⟩
  | 36 => ⟨S256x32x129, .f32⟩
  | 37 => ⟨S256x32x129, .f32⟩
  | 38 => ⟨S_, .i1⟩
  | 39 => ⟨S32x2, .i1⟩
  | 40 => ⟨S32x127, .i32⟩
  | 41 => ⟨S_, .i32⟩
  | 42 => ⟨S32x127, .i32⟩
  | 43 => ⟨S32x127, .i1⟩
  | 44 => ⟨S32x127, .i32⟩
  | 45 => ⟨S32x127, .i32⟩
  | 46 => ⟨S32x127, .i1⟩
  | 47 => ⟨S32x127, .i1⟩
  | 48 => ⟨S32x129, .i1⟩
  | 49 => ⟨S32x129, .i32⟩
  | 50 => ⟨S_, .i32⟩
  | 51 => ⟨S32x129, .i32⟩
  | 52 => ⟨S32x129, .i1⟩
  | 53 => ⟨S1x32x129, .f32⟩
  | 54 => ⟨S32x129, .f32⟩
  | 55 => ⟨S_, .f32⟩
  | 56 => ⟨S_, .f32⟩
  | 57 => ⟨S32x129, .f32⟩
  | 58 => ⟨S32x129, .f32⟩
  | 59 => ⟨S255, .i32⟩
  | 60 => ⟨S_, .i32⟩
  | 61 => ⟨S255, .i32⟩
  | 62 => ⟨S255, .i32⟩
  | 63 => ⟨S255x32x129, .f32⟩
  | 64 => ⟨S_, .i32⟩
  | 65 => ⟨S255, .i32⟩
  | 66 => ⟨S255x32x129, .f32⟩
  | 67 => ⟨S32x129, .i1⟩
  | 68 => ⟨S32, .i32⟩
  | 69 => ⟨S_, .i32⟩
  | 70 => ⟨S32x129, .f32⟩
  | 71 => ⟨S_, .i32⟩
  | 72 => ⟨S_, .i1⟩
  | 73 => ⟨S1, .i32⟩
  | 74 => ⟨S_, .i32⟩
  | 75 => ⟨S_, .i32⟩
  | 76 => ⟨S_, .i32⟩
  | 77 => ⟨S1x32x129, .f32⟩
  | 78 => ⟨S32x129, .f32⟩
  | 79 => ⟨S_, .f32⟩
  | 80 => ⟨S32x1, .f32⟩
  | 81 => ⟨S32x128, .f32⟩
  | 82 => ⟨S32x129, .f32⟩
  | 83 => ⟨S_, .f32⟩
  | 84 => ⟨S32x2, .f32⟩
  | 85 => ⟨S32x127, .f32⟩
  | 86 => ⟨S32x129, .f32⟩
  | 87 => ⟨S_, .f32⟩
  | 88 => ⟨S_, .f32⟩
  | 89 => ⟨S32x129, .f32⟩
  | 90 => ⟨S32x129, .f32⟩
  | 91 => ⟨S32x129, .f32⟩
  | 92 => ⟨S32x129, .f32⟩
  | 93 => ⟨S32x129, .i1⟩
  | 94 => ⟨S32x129, .f32⟩
  | 95 => ⟨S32x129, .f32⟩
  | 96 => ⟨S32x129, .f32⟩
  | 97 => ⟨S32x129, .f32⟩
  | 98 => ⟨S32x129, .f32⟩
  | 99 => ⟨S32x129, .f32⟩
  | 100 => ⟨S32x129, .f32⟩
  | 101 => ⟨S32x129, .f32⟩
  | 102 => ⟨S32x129, .f32⟩
  | 103 => ⟨S32x129, .i1⟩
  | 104 => ⟨S32x129, .f32⟩
  | 105 => ⟨S32x129, .f32⟩
  | 106 => ⟨S32x129, .f32⟩
  | 107 => ⟨S32x129, .f32⟩
  | 108 => ⟨S32x129, .f32⟩
  | 109 => ⟨S32x129, .f32⟩
  | 110 => ⟨S32x129, .f32⟩
  | 111 => ⟨S32x129, .f32⟩
  | 112 => ⟨S32, .i32⟩
  | 113 => ⟨S32, .i1⟩
  | 114 => ⟨S32x1, .i1⟩
  | 115 => ⟨S32x129, .i1⟩
  | 116 => ⟨S32x129, .f32⟩
  | 117 => ⟨S_, .i32⟩
  | 118 => ⟨S_, .i32⟩
  | 119 => ⟨S_, .i32⟩
  | 120 => ⟨S32, .i32⟩
  | 121 => ⟨S32, .i32⟩
  | 122 => ⟨S_, .i32⟩
  | 123 => ⟨S32, .i32⟩
  | 124 => ⟨S32, .i32⟩
  | 125 => ⟨S32x1, .i32⟩
  | 126 => ⟨S32x1, .i32⟩
  | 127 => ⟨S32x2, .i32⟩
  | _ => ⟨S32x64x10000, .f32⟩

abbrev hbmTy0_1 (i : Nat) : BufTy := match i % 128 with
  | 0 => ⟨S_, .i32⟩
  | 1 => ⟨S32x2, .i32⟩
  | 2 => ⟨S32x2, .i1⟩
  | 3 => ⟨S_, .i32⟩
  | 4 => ⟨S32x2, .i32⟩
  | 5 => ⟨S32x2, .i32⟩
  | 6 => ⟨S32x2, .i32⟩
  | 7 => ⟨S32x2x1, .i32⟩
  | 8 => ⟨S32x2, .f32⟩
  | 9 => ⟨S32x1, .f32⟩
  | 10 => ⟨S32, .f32⟩
  | 11 => ⟨S32x1, .f32⟩
  | 12 => ⟨S32, .f32⟩
  | 13 => ⟨S32, .f32⟩
  | 14 => ⟨S32, .f32⟩
  | 15 => ⟨S32, .i1⟩
  | 16 => ⟨S32, .f32⟩
  | 17 => ⟨S32, .f32⟩
  | 18 => ⟨S32, .f32⟩
  | 19 => ⟨S32, .f32⟩
  | 20 => ⟨S32, .f32⟩
  | 21 => ⟨S32, .f32⟩
  | 22 => ⟨S32, .f32⟩
  | 23 => ⟨S32, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S32x64x10000, .i32⟩
  | 31 => ⟨S32x64x1, .i32⟩
  | 32 => ⟨S_, .i32⟩
  | 33 => ⟨S32x64x10000, .i32⟩
  | 34 => ⟨S32x64x10000, .i1⟩
  | 35 => ⟨S_, .f32⟩
  | 36 => ⟨S_, .f32⟩
  | 37 => ⟨S32x64x10000, .f32⟩
  | 38 => ⟨S32x64x10000, .f32⟩
  | 39 => ⟨S32x64x10000, .f32⟩
  | 40 => ⟨S32x64x10000, .i32⟩
  | 41 => ⟨S32x64x10000, .i1⟩
  | 42 => ⟨S32x64x10000, .f32⟩
  | 43 => ⟨S32x64x10000, .f32⟩
  | 44 => ⟨S_, .i32⟩
  | 45 => ⟨S32x64x1, .i32⟩
  | 46 => ⟨S32x64x1, .i1⟩
  | 47 => ⟨S_, .f32⟩
  | 48 => ⟨S_, .f32⟩
  | 49 => ⟨S32x64x10000, .i1⟩
  | 50 => ⟨S32x64x10000, .f32⟩
  | 51 => ⟨S32x64x10000, .f32⟩
  | 52 => ⟨S_, .i32⟩
  | 53 => ⟨S32x64x1, .i32⟩
  | 54 => ⟨S32x64x1, .i1⟩
  | 55 => ⟨S_, .i32⟩
  | 56 => ⟨S32x64x10000, .i32⟩
  | 57 => ⟨S32x64x10000, .i1⟩
  | 58 => ⟨S32x64x10000, .i1⟩
  | 59 => ⟨S32x64x10000, .i1⟩
  | 60 => ⟨S_, .f32⟩
  | 61 => ⟨S_, .f32⟩
  | 62 => ⟨S32x64x10000, .f32⟩
  | 63 => ⟨S32x64x10000, .f32⟩
  | 64 => ⟨S32x64x10000, .f32⟩
  | 65 => ⟨S32x64x10000, .f32⟩
  | 66 => ⟨S_, .f32⟩
  | 67 => ⟨S_, .f32⟩
  | 68 => ⟨S32x64x10000, .f32⟩
  | 69 => ⟨S32x64x10000, .f32⟩
  | 70 => ⟨S32x64x10000, .f32⟩
  | 71 => ⟨S32x64x10000, .f32⟩
  | 72 => ⟨S32x640000, .f32⟩
  | 73 => ⟨S_, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S32, .f32⟩
  | 82 => ⟨S_, .f32⟩
  | 83 => ⟨S_, .f32⟩
  | _ => ⟨S32x64x10000, .f32⟩

abbrev hbmTy (i : Nat) : BufTy := match i / 128 with
  | 0 => hbmTy0_0 i
  | 1 => hbmTy0_1 i
  | _ => ⟨S32x64x10000, .f32⟩

abbrev bufTy : (tb : Table) → Fin (tcTables nBuf tb) → BufTy
  | .hbm, ⟨i, _⟩ => hbmTy i
  | _, _ => ⟨S32x64x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v9 : Ref sig .tc := ⟨.hbm, 37, rfl⟩
abbrev main_c_0 : Ref sig .tc := ⟨.hbm, 38, rfl⟩
abbrev main_v10 : Ref sig .tc := ⟨.hbm, 39, rfl⟩
abbrev main_v11 : Ref sig .tc := ⟨.hbm, 40, rfl⟩
abbrev main_c_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_2 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_v24 : Ref sig .tc := ⟨.hbm, 58, rfl⟩
abbrev main_v25 : Ref sig .tc := ⟨.hbm, 59, rfl⟩
abbrev main_c_3 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_4 : Ref sig .tc := ⟨.hbm, 64, rfl⟩
abbrev main_v29_0 : Ref sig .tc := ⟨.hbm, 65, rfl⟩
abbrev main_v29_1 : Ref sig .tc := ⟨.hbm, 66, rfl⟩
abbrev main_v29_2 : Ref sig .tc := ⟨.hbm, 67, rfl⟩
abbrev main_v29_3 : Ref sig .tc := ⟨.hbm, 68, rfl⟩
abbrev main_v29_4 : Ref sig .tc := ⟨.hbm, 69, rfl⟩
abbrev main_v29_5 : Ref sig .tc := ⟨.hbm, 70, rfl⟩
abbrev main_while0c_c_28 : Ref sig .tc := ⟨.hbm, 71, rfl⟩
abbrev main_while0c_v86 : Ref sig .tc := ⟨.hbm, 72, rfl⟩
abbrev main_while0b_call2_v0 : Ref sig .tc := ⟨.hbm, 73, rfl⟩
abbrev main_while0b_v86 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_v0 : Ref sig .tc := ⟨.hbm, 77, rfl⟩
abbrev main_while0b_v87 : Ref sig .tc := ⟨.hbm, 78, rfl⟩
abbrev main_while0b_cst_28 : Ref sig .tc := ⟨.hbm, 79, rfl⟩
abbrev main_while0b_v88 : Ref sig .tc := ⟨.hbm, 80, rfl⟩
abbrev main_while0b_v89 : Ref sig .tc := ⟨.hbm, 81, rfl⟩
abbrev main_while0b_v90 : Ref sig .tc := ⟨.hbm, 82, rfl⟩
abbrev main_while0b_cst_29 : Ref sig .tc := ⟨.hbm, 83, rfl⟩
abbrev main_while0b_v91 : Ref sig .tc := ⟨.hbm, 84, rfl⟩
abbrev main_while0b_v92 : Ref sig .tc := ⟨.hbm, 85, rfl⟩
abbrev main_while0b_v93 : Ref sig .tc := ⟨.hbm, 86, rfl⟩
abbrev main_while0b_cst_30 : Ref sig .tc := ⟨.hbm, 87, rfl⟩
abbrev main_while0b_call4_v0 : Ref sig .tc := ⟨.hbm, 88, rfl⟩
abbrev main_while0b_call4_v1 : Ref sig .tc := ⟨.hbm, 89, rfl⟩
abbrev main_while0b_v94 : Ref sig .tc := ⟨.hbm, 90, rfl⟩
abbrev main_while0b_v95 : Ref sig .tc := ⟨.hbm, 91, rfl⟩
abbrev main_while0b_v96 : Ref sig .tc := ⟨.hbm, 92, rfl⟩
abbrev main_while0b_v97 : Ref sig .tc := ⟨.hbm, 93, rfl⟩
abbrev main_while0b_v98 : Ref sig .tc := ⟨.hbm, 94, rfl⟩
abbrev main_while0b_v99 : Ref sig .tc := ⟨.hbm, 95, rfl⟩
abbrev main_while0b_v100 : Ref sig .tc := ⟨.hbm, 96, rfl⟩
abbrev main_while0b_v101 : Ref sig .tc := ⟨.hbm, 97, rfl⟩
abbrev main_while0b_v102 : Ref sig .tc := ⟨.hbm, 98, rfl⟩
abbrev main_while0b_v103 : Ref sig .tc := ⟨.hbm, 99, rfl⟩
abbrev main_while0b_v104 : Ref sig .tc := ⟨.hbm, 100, rfl⟩
abbrev main_while0b_v105 : Ref sig .tc := ⟨.hbm, 101, rfl⟩
abbrev main_while0b_v106 : Ref sig .tc := ⟨.hbm, 102, rfl⟩
abbrev main_while0b_v107 : Ref sig .tc := ⟨.hbm, 103, rfl⟩
abbrev main_while0b_v108 : Ref sig .tc := ⟨.hbm, 104, rfl⟩
abbrev main_while0b_v109 : Ref sig .tc := ⟨.hbm, 105, rfl⟩
abbrev main_while0b_v110 : Ref sig .tc := ⟨.hbm, 106, rfl⟩
abbrev main_while0b_v111 : Ref sig .tc := ⟨.hbm, 107, rfl⟩
abbrev main_while0b_v112 : Ref sig .tc := ⟨.hbm, 108, rfl⟩
abbrev main_while0b_v113 : Ref sig .tc := ⟨.hbm, 109, rfl⟩
abbrev main_while0b_v114 : Ref sig .tc := ⟨.hbm, 110, rfl⟩
abbrev main_while0b_v115 : Ref sig .tc := ⟨.hbm, 111, rfl⟩
abbrev main_while0b_v116 : Ref sig .tc := ⟨.hbm, 112, rfl⟩
abbrev main_while0b_v117 : Ref sig .tc := ⟨.hbm, 113, rfl⟩
abbrev main_while0b_v118 : Ref sig .tc := ⟨.hbm, 114, rfl⟩
abbrev main_while0b_call5_v0 : Ref sig .tc := ⟨.hbm, 115, rfl⟩
abbrev main_while0b_v119 : Ref sig .tc := ⟨.hbm, 116, rfl⟩
abbrev main_while0b_c_31 : Ref sig .tc := ⟨.hbm, 117, rfl⟩
abbrev main_while0b_v120 : Ref sig .tc := ⟨.hbm, 118, rfl⟩
abbrev main_c_5 : Ref sig .tc := ⟨.hbm, 119, rfl⟩
abbrev main_v30 : Ref sig .tc := ⟨.hbm, 120, rfl⟩
abbrev main_v31 : Ref sig .tc := ⟨.hbm, 121, rfl⟩
abbrev main_c_6 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_call6_c : Ref sig .tc := ⟨.hbm, 128, rfl⟩
abbrev main_call6_v0 : Ref sig .tc := ⟨.hbm, 129, rfl⟩
abbrev main_call6_v1 : Ref sig .tc := ⟨.hbm, 130, rfl⟩
abbrev main_call6_c_0 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_call6_v5 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_cst_7 : Ref sig .tc := ⟨.hbm, 152, rfl⟩
abbrev main_cst_8 : Ref sig .tc := ⟨.hbm, 153, rfl⟩
abbrev main_v53 : Ref sig .tc := ⟨.hbm, 154, rfl⟩
abbrev main_cst_9 : Ref sig .tc := ⟨.hbm, 155, rfl⟩
abbrev main_cst_10 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_c_11 : Ref sig .tc := ⟨.hbm, 160, rfl⟩
abbrev main_v57 : Ref sig .tc := ⟨.hbm, 161, rfl⟩
abbrev main_v58 : Ref sig .tc := ⟨.hbm, 162, rfl⟩
abbrev main_cst_12 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_call8_v0 : Ref sig .tc := ⟨.hbm, 170, rfl⟩
abbrev main_v62 : Ref sig .tc := ⟨.hbm, 171, rfl⟩
abbrev main_c_13 : Ref sig .tc := ⟨.hbm, 172, rfl⟩
abbrev main_v63 : Ref sig .tc := ⟨.hbm, 173, rfl⟩
abbrev main_v64 : Ref sig .tc := ⟨.hbm, 174, rfl⟩
abbrev main_cst_14 : Ref sig .tc := ⟨.hbm, 175, rfl⟩
abbrev main_call9_v0 : Ref sig .tc := ⟨.hbm, 176, rfl⟩
abbrev main_call9_v1 : Ref sig .tc := ⟨.hbm, 177, rfl⟩
abbrev main_call9_v2 : Ref sig .tc := ⟨.hbm, 178, rfl⟩
abbrev main_v65 : Ref sig .tc := ⟨.hbm, 179, rfl⟩
abbrev main_c_15 : Ref sig .tc := ⟨.hbm, 180, rfl⟩
abbrev main_v66 : Ref sig .tc := ⟨.hbm, 181, rfl⟩
abbrev main_v67 : Ref sig .tc := ⟨.hbm, 182, rfl⟩
abbrev main_c_16 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_cst_17 : Ref sig .tc := ⟨.hbm, 188, rfl⟩
abbrev main_call10_v0 : Ref sig .tc := ⟨.hbm, 189, rfl⟩
abbrev main_call10_v1 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_cst_18 : Ref sig .tc := ⟨.hbm, 194, rfl⟩
abbrev main_call11_v0 : Ref sig .tc := ⟨.hbm, 195, rfl⟩
abbrev main_call11_v1 : Ref sig .tc := ⟨.hbm, 196, rfl⟩
abbrev main_v75 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_cst_19 : Ref sig .tc := ⟨.hbm, 201, rfl⟩
abbrev main_v79 : Ref sig .tc := ⟨.hbm, 202, rfl⟩
abbrev main_cst_20 : Ref sig .tc := ⟨.hbm, 203, rfl⟩
abbrev main_v80 : Ref sig .tc := ⟨.hbm, 204, rfl⟩
abbrev main_v81 : Ref sig .tc := ⟨.hbm, 205, rfl⟩
abbrev main_cst_21 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_cst_22 : Ref sig .tc := ⟨.hbm, 210, rfl⟩
abbrev main_v85 : Ref sig .tc := ⟨.hbm, 211, rfl⟩

abbrev nD : Nat := 1
abbrev τ : Topo := Topo.v7x

variable {F : FTy → Type} [FloatOps F]

abbrev main_while0_count : Scf.Loop 32 := ⟨0#32, 255#32, 1#32⟩
-- ==== Proof.IndexWords.lean ====
/-
  The words of the SparseCore call's index list, as arithmetic on naturals. Entry `l` of pair `pp = 32·t + b` is the place
  in the flat table of frame `t`, batch member `b` and, for `l < 64`, the label `targets[b, l]`; for the rest, of the blank.
  The table is stored in tiles of eight labels by 128 frames, so the place of label `v` is
  `(v / 8)·2048 + (v mod 8)·128` past the pair's base.
-/
module

public import Idealize.ShloMosaic.PureOps.Vector
public import Idealize.ShloMosaic.Lib.Tactic

@[expose] public section

namespace Cert.Proof.IndexWords

open Idealize.ShloMosaic

/-- The base of pair `pp`: batch member `pp mod 32` at frame `pp / 32`. -/
def baseN (pp : ℕ) : ℕ := (pp % 32) * 2560000 + (pp / 32 / 128) * 1024 + (pp / 32) % 128

/-- The place of label `v` of pair `pp`. -/
def labelN (v pp : ℕ) : ℕ := v / 8 * 2048 + v % 8 * 128 + baseN pp

/-- The place of the blank, label 9999, of pair `pp`. -/
def blankN (pp : ℕ) : ℕ := 2558848 + baseN pp

/-- Row `b`, column `l` of a 32×64 array. -/
def ix64 (b l : ℕ) (hb : b < 32) (hl : l < 64) : (⟨2, ![32, 64]⟩ : Shape).Idx :=
  fun a => match a with
    | ⟨0, _⟩ => ⟨b, hb⟩
    | ⟨1, _⟩ => ⟨l, hl⟩
    | ⟨_ + 2, h⟩ => absurd h (by simp)

/-- Entry `l` of pair `pp`, from the targets. -/
def entryN (tg : (⟨2, ![32, 64]⟩ : Shape).Idx → BitVec 32) (pp l : ℕ) : ℕ :=
  if h : l < 64 then labelN (tg (ix64 (pp % 32) l (Nat.mod_lt _ (by omega)) h)).toNat pp else blankN pp

theorem baseN_le {pp : ℕ} (h : pp < 8192) : baseN pp ≤ 79361151 := by
  unfold baseN; omega

/-- Every entry is a place in the table when the targets are labels and there are 8192 pairs. -/
theorem entryN_lt (tg : (⟨2, ![32, 64]⟩ : Shape).Idx → BitVec 32) (htg : ∀ x, (tg x).toNat < 10000) {pp : ℕ} (h : pp < 8192) (l : ℕ) :
    entryN tg pp l < 81920000 := by
  unfold entryN
  split
  · rename_i hl
    have := htg (ix64 (pp % 32) l (Nat.mod_lt _ (by omega)) hl)
    have := baseN_le h
    unfold labelN; omega
  · have := baseN_le h
    unfold blankN; omega

theorem divsi_ofNat {n : ℕ} (h : n < 2147483648) : Scalar.divsi (BitVec.ofNat 32 n) 32#32 = BitVec.ofNat 32 (n / 32) := by
  have hc : ¬ IntOp.SDivCorner (BitVec.ofNat 32 n) 32#32 := by
    unfold IntOp.SDivCorner
    rintro (h | ⟨-, h⟩) <;> exact absurd h (by decide)
  show IntOp.divsi .scalar _ _ = _
  unfold IntOp.divsi
  rw [if_neg hc, BitVec.sdiv_eq]
  have hm : (BitVec.ofNat 32 n).msb = false := by
    rw [BitVec.msb_eq_false_iff_two_mul_lt, BitVec.toNat_ofNat, Nat.mod_eq_of_lt (by omega)]; omega
  rw [hm, show (32#32).msb = false by decide]
  apply BitVec.eq_of_toNat_eq
  rw [BitVec.udiv_eq, BitVec.toNat_udiv, BitVec.toNat_ofNat, BitVec.toNat_ofNat, BitVec.toNat_ofNat,
    Nat.mod_eq_of_lt (a := n) (by omega), Nat.mod_eq_of_lt (a := 32) (by omega), Nat.mod_eq_of_lt (a := n / 32) (by omega)]

theorem remsi_ofNat {n : ℕ} (h : n < 2147483648) : Scalar.remsi (BitVec.ofNat 32 n) 32#32 = BitVec.ofNat 32 (n % 32) := by
  have hc : ¬ IntOp.SDivCorner (BitVec.ofNat 32 n) 32#32 := by
    unfold IntOp.SDivCorner
    rintro (h | ⟨-, h⟩) <;> exact absurd h (by decide)
  show IntOp.remsi .scalar _ _ = _
  unfold IntOp.remsi
  rw [if_neg hc, BitVec.srem_eq]
  have hm : (BitVec.ofNat 32 n).msb = false := by
    rw [BitVec.msb_eq_false_iff_two_mul_lt, BitVec.toNat_ofNat, Nat.mod_eq_of_lt (by omega)]; omega
  rw [hm, show (32#32).msb = false by decide]
  apply BitVec.eq_of_toNat_eq
  show ((BitVec.ofNat 32 n) % 32#32).toNat = _
  rw [BitVec.toNat_umod, BitVec.toNat_ofNat, BitVec.toNat_ofNat, BitVec.toNat_ofNat,
    Nat.mod_eq_of_lt (a := n) (by omega), Nat.mod_eq_of_lt (a := 32) (by omega), Nat.mod_eq_of_lt (a := n % 32) (by omega)]

theorem shr_ofNat (u : ArithUnit) {n s : ℕ} (h : n < 2147483648) (hs : s < 32) :
    IntOp.shrui u (BitVec.ofNat 32 n) (BitVec.ofNat 32 s) = BitVec.ofNat 32 (n / 2 ^ s) := by
  unfold IntOp.shrui
  have hs' : (BitVec.ofNat 32 s).toNat = s := by rw [BitVec.toNat_ofNat]; omega
  rw [if_pos (by rw [hs']; exact hs)]
  apply BitVec.eq_of_toNat_eq
  rw [BitVec.ushiftRight_eq', BitVec.toNat_ushiftRight, hs', Nat.shiftRight_eq_div_pow, BitVec.toNat_ofNat, BitVec.toNat_ofNat,
    Nat.mod_eq_of_lt (a := n) (by omega), Nat.mod_eq_of_lt (lt_of_le_of_lt (Nat.div_le_self _ _) (by omega))]

theorem and_ofNat {n : ℕ} (k : ℕ) (hk : k < 32) : BitVec.ofNat 32 n &&& BitVec.ofNat 32 (2 ^ k - 1) = BitVec.ofNat 32 (n % 2 ^ k) := by
  apply BitVec.eq_of_toNat_eq
  have hp : 2 ^ k < 2 ^ 32 := Nat.pow_lt_pow_right (by omega) hk
  have hpos : 0 < 2 ^ k := Nat.two_pow_pos k
  rw [BitVec.toNat_and, BitVec.toNat_ofNat, BitVec.toNat_ofNat, BitVec.toNat_ofNat, Nat.mod_eq_of_lt (a := 2 ^ k - 1) (by omega),
    Nat.and_two_pow_sub_one_eq_mod, Nat.mod_mod_of_dvd _ (Nat.pow_dvd_pow 2 (by omega)), Nat.mod_eq_of_lt (a := n % 2 ^ k) ((Nat.mod_lt _ hpos).trans hp)]

/-- The word a pair's base is computed as. -/
theorem baseW_eq {pp : ℕ} (h : pp < 8192) :
    Scalar.addi (Scalar.addi (Scalar.muli (Scalar.remsi (BitVec.ofNat 32 pp) 32#32) 2560000#32)
        (Scalar.muli (Scalar.shrui (Scalar.divsi (BitVec.ofNat 32 pp) 32#32) 7#32) 1024#32))
      (Scalar.andi (Scalar.divsi (BitVec.ofNat 32 pp) 32#32) 127#32) = BitVec.ofNat 32 (baseN pp) := by
  rw [divsi_ofNat (by omega), remsi_ofNat (by omega)]
  show BitVec.ofNat 32 (pp % 32) * BitVec.ofNat 32 2560000 + IntOp.shrui .scalar (BitVec.ofNat 32 (pp / 32)) (BitVec.ofNat 32 7) * BitVec.ofNat 32 1024
    + (BitVec.ofNat 32 (pp / 32) &&& BitVec.ofNat 32 (2 ^ 7 - 1)) = _
  rw [shr_ofNat _ (by omega) (by omega), and_ofNat 7 (by omega)]
  unfold baseN
  rw [← BitVec.ofNat_mul, ← BitVec.ofNat_mul, ← BitVec.ofNat_add, ← BitVec.ofNat_add]
  simp only [Nat.reducePow]

/-- The word a label's entry is computed as. -/
theorem labelW_eq (v : BitVec 32) (pp : ℕ) (hv : v.toNat < 10000) :
    IntOp.addi (IntOp.addi (IntOp.muli (IntOp.shrui .vector v 3#32) 2048#32) (IntOp.shli .vector (IntOp.andi v 7#32) 7#32)) (BitVec.ofNat 32 (baseN pp))
      = BitVec.ofNat 32 (labelN v.toNat pp) := by
  obtain ⟨n, hn, rfl⟩ : ∃ n < 10000, v = BitVec.ofNat 32 n := ⟨v.toNat, hv, by simp⟩
  have hn' : (BitVec.ofNat 32 n).toNat = n := by rw [BitVec.toNat_ofNat]; omega
  have ha : IntOp.andi (BitVec.ofNat 32 n) 7#32 = BitVec.ofNat 32 (n % 8) := and_ofNat 3 (by omega)
  rw [hn', shr_ofNat (s := 3) .vector (n := n) (by omega) (by omega), ha]
  unfold IntOp.shli labelN IntOp.addi IntOp.muli
  rw [if_pos (by decide), BitVec.shiftLeft_eq', show (BitVec.ofNat 32 7).toNat = 7 by decide, BitVec.shiftLeft_eq_mul_twoPow,
    show BitVec.twoPow 32 7 = BitVec.ofNat 32 128 by decide, ← BitVec.ofNat_mul, ← BitVec.ofNat_mul, ← BitVec.ofNat_add, ← BitVec.ofNat_add]
  simp only [Nat.reducePow]

/-- The word the blank's entry is computed as. -/
theorem blankW_eq (pp : ℕ) : IntOp.addi 2558848#32 (BitVec.ofNat 32 (baseN pp)) = BitVec.ofNat 32 (blankN pp) := by
  unfold IntOp.addi blankN
  rw [BitVec.ofNat_add]

end Cert.Proof.IndexWords
-- ==== Proof.TileKernelIdeal.lean ====
/-
  One task of the SparseCore call: its index list is computed pair by pair from the targets, the table's elements at those
  places are gathered, and they are written to the task's block of the result. Stated at a symbolic core and tile.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.WritesUnit
public import Idealize.ShloMosaic.Lib.VecWindow
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.IndexWords

@[expose] public section

noncomputable section

namespace Cert.Proof.OfKernelIdeal

open Cert.KernelIdeal Cert.KernelIdeal.Gen
open Cert.Proof.IndexWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
variable [FloatOps F] [Named F]
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] [Named F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters, the pipelines' rounds -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

abbrev tLoc (d : Dev nD) : Loc nD τ sig := (SparseCore.T d).loc main_arg3
abbrev xLoc (d : Dev nD) : Loc nD τ sig := (SparseCore.T d).loc main_v3
abbrev oLoc (d : Dev nD) : Loc nD τ sig := (SparseCore.T d).loc main_v4

local notation "xV" => (Memref.whole Cert.KernelIdeal.main_v3_scv : Memref Cert.KernelIdeal.sig Kind.scVector Space.hbm Cert.KernelIdeal.S81920000 EltTy.f32)
local notation "tV" => (Memref.whole Cert.KernelIdeal.main_arg3_scv : Memref Cert.KernelIdeal.sig Kind.scVector Space.hbm Cert.KernelIdeal.S32x64 EltTy.i32)
local notation "oV" => (Memref.whole Cert.KernelIdeal.main_v4_scv : Memref Cert.KernelIdeal.sig Kind.scVector Space.hbm Cert.KernelIdeal.S655360 EltTy.f32)
local notation "sV" => (Memref.whole Cert.KernelIdeal.cc0_scratch0 : Memref Cert.KernelIdeal.sig Kind.scVector Space.vmem Cert.KernelIdeal.S32x64 EltTy.i32)
local notation "nV" => (Memref.whole Cert.KernelIdeal.cc0_scratch1 : Memref Cert.KernelIdeal.sig Kind.scVector Space.vmem Cert.KernelIdeal.S20480 EltTy.i32)
local notation "rV" => (Memref.whole Cert.KernelIdeal.cc0_scratch2 : Memref Cert.KernelIdeal.sig Kind.scVector Space.vmem Cert.KernelIdeal.S20480 EltTy.f32)

abbrev cV (L : grid0.Coords) : Fin τ.nSC := (L 0).castLE hcore0
abbrev jV (L : grid0.Coords) : Fin τ.nSub := (L 1).castLE hsub0

/-- The task's number: tile `s` of core `c` is task `2s + c`. -/
def wid (L : grid0.Coords) : ℕ := 2 * (L 1).val + (L 0).val

omit [FloatOps F] [Named F] in
theorem wid_lt (L : grid0.Coords) : wid L < 32 := by
  have h0 : (L 0).val < 2 := (L 0).isLt
  have h1 : (L 1).val < 16 := (L 1).isLt
  unfold wid; omega

/-! ## The words a trip stores -/

/-- The first pair of the task, as the word the task computes. -/
abbrev pair0 (L : grid0.Coords) : BitVec 32 :=
  Scalar.muli (Scalar.addi (Scalar.muli (BitVec.ofNat 32 (L 1).val) 2#32) (BitVec.ofNat 32 (L 0).val)) 256#32

omit [FloatOps F] [Named F] in
theorem pair0_eq (L : grid0.Coords) : pair0 L = BitVec.ofNat 32 (256 * wid L) := by
  show (BitVec.ofNat 32 (L 1).val * BitVec.ofNat 32 2 + BitVec.ofNat 32 (L 0).val) * BitVec.ofNat 32 256 = _
  unfold wid
  rw [← BitVec.ofNat_mul, ← BitVec.ofNat_add, ← BitVec.ofNat_mul]
  congr 1; omega

omit [FloatOps F] [Named F] in
theorem pairW_eq (L : grid0.Coords) (k : Fin k0_t1_loop.trips) :
    Scalar.addi (pair0 L) (Scf.iv 0#32 1#32 k) = BitVec.ofNat 32 (256 * wid L + k.val) := by
  rw [pair0_eq]
  have hiv : Scf.iv 0#32 1#32 k = BitVec.ofNat 32 k.val := by
    unfold Scf.iv
    simp
  rw [hiv]
  show BitVec.ofNat 32 _ + BitVec.ofNat 32 _ = _
  rw [← BitVec.ofNat_add]

omit [FloatOps F] [Named F] in
theorem trips_eq : k0_t1_loop.trips = 256 := by decide

/-- The word of pair `256·wid + k`'s base. -/
abbrev baseW (L : grid0.Coords) (k : Fin k0_t1_loop.trips) : BitVec 32 :=
  let v7 := Scalar.addi (pair0 L) (Scf.iv 0#32 1#32 k)
  Scalar.addi (Scalar.addi (Scalar.muli (Scalar.remsi v7 32#32) 2560000#32)
      (Scalar.muli (Scalar.shrui (Scalar.divsi v7 32#32) 7#32) 1024#32))
    (Scalar.andi (Scalar.divsi v7 32#32) 127#32)

omit [FloatOps F] [Named F] in
theorem baseW_val (L : grid0.Coords) (k : Fin k0_t1_loop.trips) : baseW L k = BitVec.ofNat 32 (baseN (256 * wid L + k.val)) := by
  have hk : k.val < 256 := lt_of_lt_of_eq k.isLt trips_eq
  have := wid_lt L
  unfold baseW
  rw [pairW_eq]
  exact IndexWords.baseW_eq (by omega)

omit [FloatOps F] [Named F] in
/-- A row of sixteen read as sixteen. -/
theorem row16 {α : Type} (v : S1x16.Idx → α) (x : S16.Idx) :
    shapeCast S16 v shapeCasts_S1x16_S16 x = v (Fin.cons ⟨0, Nat.one_pos⟩ x) :=
  shapeCast_dropUnit_apply ![16] v _ x

variable (L : grid0.Coords) (k : Fin k0_t1_loop.trips)

omit [FloatOps F] [Named F] in
theorem pay3_apply (v : Vec F S1x16 .i32) (x : S16.Idx) (hv : (v (Fin.cons ⟨0, Nat.one_pos⟩ x) : BitVec 32).toNat < 10000) :
    k0_pay3 (F := F) (pair0 L) 0#32 1#32 k v x = BitVec.ofNat 32 (labelN (v (Fin.cons ⟨0, Nat.one_pos⟩ x) : BitVec 32).toNat (256 * wid L + k.val)) := by
  unfold k0_pay3
  rw [shapeCast_self]
  show IntOp.addi (IntOp.addi (IntOp.muli (IntOp.shrui .vector (shapeCast S16 v shapeCasts_S1x16_S16 x) 3#32) 2048#32)
    (IntOp.shli .vector (IntOp.andi (shapeCast S16 v shapeCasts_S1x16_S16 x) 7#32) 7#32)) (baseW L k) = _
  rw [row16, baseW_val]
  exact labelW_eq _ _ hv

omit [FloatOps F] [Named F] in
theorem pay7_apply (v : Vec F S1x16 .i32) (x : S16.Idx) (hv : (v (Fin.cons ⟨0, Nat.one_pos⟩ x) : BitVec 32).toNat < 10000) :
    k0_pay7 (baseW L k) (k0_pay5 (F := F) v) (k0_pay6 (F := F) v) x
      = BitVec.ofNat 32 (labelN (v (Fin.cons ⟨0, Nat.one_pos⟩ x) : BitVec 32).toNat (256 * wid L + k.val)) := by
  unfold k0_pay7 k0_pay5 k0_pay6 k0_pay4
  rw [shapeCast_self]
  show IntOp.addi (IntOp.addi (IntOp.muli (IntOp.shrui .vector (shapeCast S16 v shapeCasts_S1x16_S16 x) 3#32) 2048#32)
    (IntOp.shli .vector (IntOp.andi (shapeCast S16 v shapeCasts_S1x16_S16 x) 7#32) 7#32)) (baseW L k) = _
  rw [row16, baseW_val]
  exact labelW_eq _ _ hv

omit [FloatOps F] [Named F] in
theorem pay8_apply (v : Vec F S1x16 .i32) (x : S16.Idx) (hv : (v (Fin.cons ⟨0, Nat.one_pos⟩ x) : BitVec 32).toNat < 10000) :
    k0_pay8 (F := F) (baseW L k) v x
      = BitVec.ofNat 32 (labelN (v (Fin.cons ⟨0, Nat.one_pos⟩ x) : BitVec 32).toNat (256 * wid L + k.val)) := by
  unfold k0_pay8
  rw [shapeCast_self]
  show IntOp.addi (IntOp.addi (IntOp.muli (IntOp.shrui .vector (shapeCast S16 v shapeCasts_S1x16_S16 x) 3#32) 2048#32)
    (IntOp.shli .vector (IntOp.andi (shapeCast S16 v shapeCasts_S1x16_S16 x) 7#32) 7#32)) (baseW L k) = _
  rw [row16, baseW_val]
  exact labelW_eq _ _ hv

omit [FloatOps F] [Named F] in
theorem pay1_apply (v : Vec F S1x16 .i32) (x : S16.Idx) (hv : (v (Fin.cons ⟨0, Nat.one_pos⟩ x) : BitVec 32).toNat < 10000) :
    k0_pay1 (k0_pay9 (F := F) (baseW L k) v) x
      = BitVec.ofNat 32 (labelN (v (Fin.cons ⟨0, Nat.one_pos⟩ x) : BitVec 32).toNat (256 * wid L + k.val)) := by
  unfold k0_pay1 k0_pay9
  rw [shapeCast_self]
  show IntOp.addi (IntOp.addi (IntOp.muli (IntOp.shrui .vector (shapeCast S16 v shapeCasts_S1x16_S16 x) 3#32) 2048#32)
    (IntOp.shli .vector (IntOp.andi (shapeCast S16 v shapeCasts_S1x16_S16 x) 7#32) 7#32)) (baseW L k) = _
  rw [row16, baseW_val]
  exact labelW_eq _ _ hv

omit [FloatOps F] [Named F] in
theorem pay2_apply (x : S16.Idx) : k0_pay2 (baseW L k) x = BitVec.ofNat 32 (blankN (256 * wid L + k.val)) := by
  unfold k0_pay2
  rw [shapeCast_self]
  show IntOp.addi 2558848#32 (baseW L k) = _
  rw [baseW_val]
  exact blankW_eq _

/-! ## The loop -/

variable (d : Dev nD) (tg : S32x64.Idx → Elt F .i32)

/-- What the index list holds before trip `n`: its first `80n` words. -/
def ListTo (n : ℕ) (f : S20480.Idx → Elt F .i32) : Prop :=
  ∀ j : S20480.Idx, (j 0).val < 80 * n → f j = BitVec.ofNat 32 (entryN tg (256 * wid L + (j 0).val / 80) ((j 0).val % 80))

abbrev tileInv (n : ℕ) (_ : Unit) : sProp 𝕄 :=
  iprop(((sV).view.loc (V d (cV L) (jV L)) ↦{fullShare} (tg : Buf (Elt F) ((sV).view.loc (V d (cV L) (jV L)))))
    ∗ ∃ f : Buf (Elt F) ((nV).view.loc (V d (cV L) (jV L))), ((nV).view.loc (V d (cV L) (jV L)) ↦{fullShare} f)
      ∗ ⌜ListTo (F := F) L tg n ((nV).view.read (Elt F) f)⌝)

/-- Index `n` of sixteen. -/
def x16 (n : ℕ) (h : n < 16) : S16.Idx := fun a => match a with
  | ⟨0, _⟩ => ⟨n, h⟩
  | ⟨_ + 1, h⟩ => absurd h (by simp)

omit [FloatOps F] [Named F] in
/-- A read past one store of sixteen words at offset `o`. -/
theorem read16 (f : Buf (Elt F) ((nV).view.loc (V d (cV L) (jV L)))) {off : Fin 1 → ℕ} (o : ℕ) (ho : off = ![o])
    (inb : ∀ a : Fin 1, off a + S16.size a ≤ S20480.size a) (w : S16.Idx → Elt F .i32) (l : List (View.Piece (Elt F) S20480 .i32)) (y : S20480.Idx) :
    (nV).view.read (Elt F) ((nV).view.writes (Elt F) f ((⟨Rect.unit (s := S20480) off S16.size inb, w⟩ : View.Piece (Elt F) S20480 .i32) :: l)) y
      = if h : o ≤ (y 0).val ∧ (y 0).val < o + 16 then w (x16 ((y 0).val - o) (by omega))
        else (nV).view.read (Elt F) ((nV).view.writes (Elt F) f l) y := by
  split
  · rename_i h
    refine View.read_writes_cons_unit_of_mem (nV).view f inb w l y (x16 ((y 0).val - o) (by omega)) ho fun a => ?_
    match a with
    | ⟨0, _⟩ => show (y 0).val = o + ((y 0).val - o); omega
  · rename_i h
    refine View.read_writes_cons_unit_of_not_mem (nV).view f inb w l y ho (0 : Fin 1) ?_
    show (y 0).val < o ∨ o + 16 ≤ (y 0).val
    omega

/-- One trip's five stores lengthen the list by the pair's eighty words. -/
theorem listTo_step (f : Buf (Elt F) ((nV).view.loc (V d (cV L) (jV L)))) (w0 w1 w2 w3 w4 : S16.Idx → Elt F .i32)
    {o0 o1 o2 o3 o4 : Fin 1 → ℕ} (e0 : o0 = ![80 * k.val]) (e1 : o1 = ![80 * k.val + 16]) (e2 : o2 = ![80 * k.val + 32])
    (e3 : o3 = ![80 * k.val + 48]) (e4 : o4 = ![80 * k.val + 64])
    (i0 : ∀ a : Fin 1, o0 a + S16.size a ≤ S20480.size a) (i1 : ∀ a : Fin 1, o1 a + S16.size a ≤ S20480.size a)
    (i2 : ∀ a : Fin 1, o2 a + S16.size a ≤ S20480.size a) (i3 : ∀ a : Fin 1, o3 a + S16.size a ≤ S20480.size a)
    (i4 : ∀ a : Fin 1, o4 a + S16.size a ≤ S20480.size a)
    (h0 : ∀ n h, w0 (x16 n h) = BitVec.ofNat 32 (entryN tg (256 * wid L + k.val) n))
    (h1 : ∀ n h, w1 (x16 n h) = BitVec.ofNat 32 (entryN tg (256 * wid L + k.val) (16 + n)))
    (h2 : ∀ n h, w2 (x16 n h) = BitVec.ofNat 32 (entryN tg (256 * wid L + k.val) (32 + n)))
    (h3 : ∀ n h, w3 (x16 n h) = BitVec.ofNat 32 (entryN tg (256 * wid L + k.val) (48 + n)))
    (h4 : ∀ n h, w4 (x16 n h) = BitVec.ofNat 32 (entryN tg (256 * wid L + k.val) (64 + n)))
    (hf : ListTo (F := F) L tg k.val ((nV).view.read (Elt F) f)) :
    ListTo (F := F) L tg (k.val + 1) ((nV).view.read (Elt F) ((nV).view.writes (Elt F) f
      [⟨Rect.unit (s := S20480) o4 S16.size i4, w4⟩, ⟨Rect.unit (s := S20480) o3 S16.size i3, w3⟩, ⟨Rect.unit (s := S20480) o2 S16.size i2, w2⟩,
        ⟨Rect.unit (s := S20480) o1 S16.size i1, w1⟩, ⟨Rect.unit (s := S20480) o0 S16.size i0, w0⟩])) := by
  intro y hy
  rw [read16 L d f _ e4, read16 L d f _ e3, read16 L d f _ e2, read16 L d f _ e1, read16 L d f _ e0]
  have key : ∀ n, 80 * k.val ≤ (y 0).val → (y 0).val - 80 * k.val = n → n < 80 →
      BitVec.ofNat 32 (entryN tg (256 * wid L + k.val) n) = BitVec.ofNat 32 (entryN tg (256 * wid L + (y 0).val / 80) ((y 0).val % 80)) := by
    intro n h1 h2 h3
    rw [show (y 0).val / 80 = k.val by omega, show (y 0).val % 80 = n by omega]
  split
  · rw [h4]; exact key _ (by omega) (by omega) (by omega)
  split
  · rw [h3]; exact key _ (by omega) (by omega) (by omega)
  split
  · rw [h2]; exact key _ (by omega) (by omega) (by omega)
  split
  · rw [h1]; exact key _ (by omega) (by omega) (by omega)
  split
  · rw [h0]; exact key _ (by omega) (by omega) (by omega)
  exact hf y (by omega)

/-- The sixteen targets a trip loads at column `c`, from row `b`. -/
theorem load16 {off : Fin 2 → ℕ} (b c : ℕ) (ho : off = ![b, c]) (hb : b < 32) (hc : c + 16 ≤ 64)
    (inb : ∀ a : Fin 2, off a + S1x16.size a ≤ S32x64.size a) (n : ℕ) (h : n < 16) :
    (sV).view.readAt (Elt F) (Rect.unit (s := S32x64) off S1x16.size inb).toLoadRect (tg : Buf (Elt F) ((sV).view.loc (V d (cV L) (jV L))))
      (Fin.cons ⟨0, Nat.one_pos⟩ (x16 n h)) = tg (ix64 b (c + n) hb (by omega)) := by
  subst ho
  refine congrArg tg (funext fun a => Fin.ext ?_)
  match a with
  | ⟨0, _⟩ => show b + 1 * 0 = b; omega
  | ⟨1, _⟩ => show c + 1 * n = c + n; omega

omit [FloatOps F] [Named F] in
theorem row_eq : (512 * (L 1).val + 256 * (L 0).val + k.val) % 32 = (256 * wid L + k.val) % 32 := by
  unfold wid; congr 1; omega

theorem label_entry (htg : ∀ x, (tg x : BitVec 32).toNat < 10000) (v : Vec F S1x16 .i32) (n : ℕ) (h : n < 16) (c pp : ℕ) (hc : c + n < 64)
    (p : S16.Idx → BitVec 32)
    (hp : (v (Fin.cons ⟨0, Nat.one_pos⟩ (x16 n h)) : BitVec 32).toNat < 10000 →
      p (x16 n h) = BitVec.ofNat 32 (labelN (v (Fin.cons ⟨0, Nat.one_pos⟩ (x16 n h)) : BitVec 32).toNat pp))
    (hv : v (Fin.cons ⟨0, Nat.one_pos⟩ (x16 n h)) = tg (ix64 (pp % 32) (c + n) (Nat.mod_lt _ (by omega)) hc)) :
    p (x16 n h) = BitVec.ofNat 32 (entryN tg pp (c + n)) := by
  rw [hv] at hp
  rw [hp (htg _), entryN, dif_pos hc]

set_option maxHeartbeats 4000000 in
theorem trip (acc : Unit) (htg : ∀ x, (tg x : BitVec 32).toNat < 10000) :
    tileInv (F := F) L d tg k.val acc ⊢ wp frame (wpE (defs₀ (F := F)) 𝒱₀ (V d (cV L) (jV L)) none) Set.univ
      (k0_t1_body (F := F) L xV (Memref.isWhole_whole _) tV (Memref.isWhole_whole _) oV (Memref.isWhole_whole _)
            sV (Memref.isWhole_whole _) nV (Memref.isWhole_whole _) rV (Memref.isWhole_whole _) cc0_scratch3 cc0_scoped0 cc0_scoped1 (pair0 L) k acc)
      fun r => tileInv (F := F) L d tg (k.val + 1) r := by
  unfold k0_t1_body tileInv
  iintro ⟨Hs, %f, Hn, %hf⟩
  sl_exec
  sl_step
  isplitl [Hs]; · iexact Hs
  iexists _; isplitl [Hn]; · iexact Hn
  ipureintro
  have hr : (512 * (L 1).val + 256 * (L 0).val + k.val) % 32 = (256 * wid L + k.val) % 32 := row_eq L k
  have hb : (256 * wid L + k.val) % 32 < 32 := Nat.mod_lt _ (by omega)
  refine listTo_step L k d tg f _ _ _ _ _ ((k0_off2_eq k 0).trans (by simp)) ((k0_off2_eq k 1).trans (by simp)) ((k0_off2_eq k 2).trans (by simp))
    ((k0_off2_eq k 3).trans (by simp)) ((k0_off2_eq k 4).trans (by simp)) _ _ _ _ _ ?_ ?_ ?_ ?_ ?_ hf
  · intro n h
    have := label_entry (F := F) tg htg _ n h 0 (256 * wid L + k.val) (by omega) _ (pay3_apply (F := F) L k _ (x16 n h))
      (load16 tg _ 0 ((k0_off1_eq L k).trans (by rw [hr])) hb (by omega) (k0_off1_inb L k) n h)
    rw [Nat.zero_add] at this; exact this
  · intro n h
    exact label_entry (F := F) tg htg _ n h 16 (256 * wid L + k.val) (by omega) _ (pay7_apply (F := F) L k _ (x16 n h))
      (load16 tg _ 16 ((k0_off3_eq L k).trans (by rw [hr])) hb (by omega) (k0_off3_inb L k) n h)
  · intro n h
    exact label_entry (F := F) tg htg _ n h 32 (256 * wid L + k.val) (by omega) _ (pay8_apply (F := F) L k _ (x16 n h))
      (load16 tg _ 32 ((k0_off4_eq L k).trans (by rw [hr])) hb (by omega) (k0_off4_inb L k) n h)
  · intro n h
    exact label_entry (F := F) tg htg _ n h 48 (256 * wid L + k.val) (by omega) _ (pay1_apply (F := F) L k _ (x16 n h))
      (load16 tg _ 48 ((k0_off5_eq L k).trans (by rw [hr])) hb (by omega) (k0_off5_inb L k) n h)
  · intro n h
    refine (pay2_apply L k (x16 n h)).trans ?_
    rw [entryN, dif_neg (by omega)]

/-! ## The task's block of the result -/

theorem odiv : 32 ∣ S655360.size 0 := ⟨20480, rfl⟩
abbrev oblk (w : Fin 32) : Rect S655360 := Rect.part (s := S655360) (a₀ := 0) odiv w
abbrev oSet (w : Fin 32) : Finset S655360.Idx := ((oV).view.slice (oblk w)).set
abbrev oblkK (L : grid0.Coords) : Rect S655360 := Rect.unit (s := S655360) (k0_off6 L) S20480.size (k0_off6_inb L)
abbrev oBlkK (L : grid0.Coords) : Memref sig .scVector .hbm S20480 .f32 := (oV).slice (oblkK L) (fun _ => rfl)
abbrev xAllK : Memref sig .scVector .hbm S81920000 .f32 :=
  (xV).slice (Rect.unit (s := S81920000) ![0] S81920000.size inb_S81920000_S81920000_0) (fun _ => rfl)
abbrev widF (L : grid0.Coords) : Fin 32 := ⟨wid L, wid_lt L⟩

omit [FloatOps F] [Named F] in
theorem oblkK_eq : oblkK L = oblk (widF L) := by
  unfold oblkK oblk Rect.part Rect.block
  congr 1 <;> funext a
  · rw [k0_off6_eq]
    match a with
    | 0 => simp [Shape.partIx, Shape.partSize, wid]; omega
  · match a with
    | 0 => simp [Shape.partSize]

omit [FloatOps F] [Named F] in
theorem set_oBlkK : (oBlkK L).view.set = oSet (widF L) := by
  show ((oV).view.slice (oblkK L)).set = ((oV).view.slice (oblk (widF L))).set
  exact oblkK_eq L ▸ rfl

omit [FloatOps F] [Named F] in
theorem pts_oBlkK (f : Buf (Elt F) (oLoc d)) :
    ((oBlkK L).view.loc (V d (cV L) (jV L)) ↦[(oBlkK L).view.set]{fullShare} f : sProp 𝕄) = oLoc d ↦[oSet (widF L)]{fullShare} f := by
  rw [set_oBlkK]
omit [FloatOps F] [Named F] in
theorem pts_xV (q : PosShare TreeShare) (f : Buf (Elt F) (xLoc d)) :
    ((xAllK).view.loc (V d (cV L) (jV L)) ↦{q} f : sProp 𝕄) = xLoc d ↦{q} f := rfl
omit [FloatOps F] [Named F] in
theorem pts_tV (q : PosShare TreeShare) (f : Buf (Elt F) (tLoc d)) :
    ((tV).view.loc (V d (cV L) (jV L)) ↦{q} f : sProp 𝕄) = tLoc d ↦{q} f := rfl
omit [FloatOps F] [Named F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] [Named F] in
theorem pts_nV (f : Buf (Elt F) ((V d (cV L) (jV L)).loc cc0_scratch1)) :
    ((nV).view.loc (V d (cV L) (jV L)) ↦{fullShare} f : sProp 𝕄) = (V d (cV L) (jV L)).loc cc0_scratch1 ↦{fullShare} f := rfl
omit [FloatOps F] [Named F] in
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scratch3.sem)

omit [FloatOps F] [Named F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scratch3.sem : SemLoc sig).isScoped .scVector = true; decide⟩⟩⟩)]

omit [FloatOps F] [Named F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## What the call leaves -/

/-- Place `n` of the table. -/
def place (n : ℕ) : S81920000.Idx := fun a => match a with
  | ⟨0, _⟩ => ⟨n % 81920000, Nat.mod_lt _ (by omega)⟩
  | ⟨_ + 1, h⟩ => absurd h (by simp)

/-- The gathered elements: element `80·pp + l` of the result is the table's at entry `l` of pair `pp`. -/
def gat (fx : S81920000.Idx → Elt F .f32) (g : S655360.Idx) : Elt F .f32 :=
  fx (place (entryN tg ((g 0).val / 80) ((g 0).val % 80)))

omit [FloatOps F] [Named F] in
theorem list_lt (htg : ∀ x, (tg x : BitVec 32).toNat < 10000) (f : S20480.Idx → Elt F .i32) (hf : ListTo (F := F) L tg 256 f) (x : S20480.Idx) :
    (f x : BitVec 32).toNat < 81920000 := by
  have hx : (x 0).val < 20480 := (x 0).isLt
  have := wid_lt L
  rw [hf x (by omega), BitVec.toNat_ofNat]
  exact lt_of_le_of_lt (Nat.mod_le _ _) (entryN_lt tg htg (by omega) _)

omit [FloatOps F] [Named F] in
/-- What the gather lands is the task's block of `gat`. -/
theorem gather_eq (htg : ∀ x, (tg x : BitVec 32).toNat < 10000) (fx : Buf (Elt F) (xLoc d)) (f : S20480.Idx → Elt F .i32)
    (hf : ListTo (F := F) L tg 256 f) (hn : S20480.numel = S20480.size gathers_S81920000_S20480.axis')
    (hin : ∀ x, (f x : BitVec 32).toNat < S81920000.size gathers_S81920000_S20480.axis) (x : S20480.Idx) :
    SparseCore.gatherPayload gathers_S81920000_S20480 ((xAllK).view.read (Elt F) fx) (SparseCore.rows f hn hin) x
      = gat tg fx ((oBlkK L).view.emb x) := by
  have hx : (x 0).val < 20480 := (x 0).isLt
  have hw := wid_lt L
  have hoff : (((oBlkK L).view.emb x) 0).val = 20480 * wid L + (x 0).val := by
    show k0_off6 L 0 + 1 * (x 0).val = _
    rw [k0_off6_eq]
    show 40960 * (L 1).val + 20480 * (L 0).val + 1 * (x 0).val = _
    unfold wid; omega
  have hrow : (SparseCore.rows f hn hin (x 0)).val = entryN tg (256 * wid L + (x 0).val / 80) ((x 0).val % 80) := by
    show (f (S20480.rowMajor.symm ((x 0).cast hn.symm)) : BitVec 32).toNat = _
    have hx' : S20480.rowMajor.symm ((x 0).cast hn.symm) = x := by
      rw [Equiv.symm_apply_eq]
      exact Fin.ext (Shape.rowMajor_val_one x).symm
    rw [hx', hf x (by omega), BitVec.toNat_ofNat, Nat.mod_eq_of_lt]
    exact (entryN_lt tg htg (by omega) _).trans (by omega)
  unfold SparseCore.gatherPayload gat
  rw [hoff, show (20480 * wid L + (x 0).val) / 80 = 256 * wid L + (x 0).val / 80 by omega, show (20480 * wid L + (x 0).val) % 80 = (x 0).val % 80 by omega]
  refine congrArg fx (funext fun a => Fin.ext ?_)
  match a with
  | ⟨0, _⟩ =>
    show 0 + 1 * (SparseCore.rows f hn hin (x 0)).val = _ % 81920000
    rw [hrow, Nat.mod_eq_of_lt (entryN_lt tg htg (by omega) _)]; omega

/-! ## The task -/

abbrev tPts (d : Dev nD) (q : PosShare TreeShare) (f : Buf (Elt F) (tLoc d)) : sProp 𝕄 := tLoc d ↦{q} f
abbrev xPts (d : Dev nD) (q : PosShare TreeShare) (f : Buf (Elt F) (xLoc d)) : sProp 𝕄 := xLoc d ↦{q} f
abbrev oBlkPts (d : Dev nD) (w : Fin 32) (f : Buf (Elt F) (oLoc d)) : sProp 𝕄 := oLoc d ↦[oSet w]{fullShare} f

omit [FloatOps F] [Named F] in
/-- A view written whole holds the payload at its own elements. -/
theorem writes_whole_emb {κ : Kind} {sp : Space} {s : Shape} {e : EltTy} (v : View sig κ sp s e) (f : v.ty.Contents (Elt F)) (w : s.Idx → Elt F e) (x : s.Idx) :
    v.writes (Elt F) f [⟨Rect.whole s, w⟩] (v.emb x) = _root_.cast (congrArg (Elt F) v.elt_eq.symm) (w x) := by
  have h := congrFun (View.read_writes_whole v f w) x
  rw [View.read_apply] at h
  rw [← h, _root_.cast_cast]; rfl

omit [FloatOps F] [Named F] in
/-- A block written whole by `gat`'s elements is `gat` on the block. -/
theorem block_eq (fo g : Buf (Elt F) (oLoc d)) (w : S20480.Idx → Elt F .f32) (hw : ∀ x, w x = g ((oBlkK L).view.emb x)) :
    ((oBlkK L).view.loc (V d (cV L) (jV L)) ↦[(oBlkK L).view.set]{fullShare} (oBlkK L).view.writes (Elt F) fo [⟨Rect.whole S20480, w⟩] : sProp 𝕄)
      = (oBlkK L).view.loc (V d (cV L) (jV L)) ↦[(oBlkK L).view.set]{fullShare} g := by
  refine pointsTo_congr fun i hi => ?_
  obtain ⟨x, -, rfl⟩ := Finset.mem_map.mp hi
  exact (writes_whole_emb (oBlkK L).view fo w x).trans (hw x)

set_option maxHeartbeats 4000000 in
theorem tile_body (hF : (K (F := F)).Facts) (htg : ∀ x, (tg x : BitVec 32).toNat < 10000) (fx : Buf (Elt F) (xLoc d)) (fo : Buf (Elt F) (oLoc d))
    (q q' : PosShare TreeShare) (O : CellTallies nD τ sig (HIx 1)) (W : Waits sig (HIx 1)) (hO : ∀ g, O g none = 0) :
    iprop(levAts (K (F := F)).L (K (F := F)).lev ∗ emp
        ∗ (tPts d q (tg : Buf (Elt F) (tLoc d)) ∗ xPts d q' fx ∗ oBlkPts d (widF L) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k (F := F) L xV (Memref.isWhole_whole _) tV (Memref.isWhole_whole _) oV (Memref.isWhole_whole _)
            sV (Memref.isWhole_whole _) nV (Memref.isWhole_whole _) rV (Memref.isWhole_whole _) cc0_scratch3 cc0_scoped0 cc0_scoped1)
          fun _ => iprop((tPts d q (tg : Buf (Elt F) (tLoc d)) ∗ xPts d q' fx ∗ oBlkPts d (widF L) (gat tg fx : Buf (Elt F) (oLoc d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hx, Ho⟩, ⟨⟨%fs, Hs⟩, ⟨%fn, Hn⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oBlkK (F := F) L d _).symm) $$ Ho
  ihave Hx' := (Entails.of_eq (pts_xV (F := F) L d _ _).symm) $$ Hx
  ihave Ht' := (Entails.of_eq (pts_tV (F := F) L d _ _).symm) $$ Ht
  ihave Hs' := (Entails.of_eq (pts_sV (F := F) L d _).symm) $$ Hs
  ihave Hn' := (Entails.of_eq (pts_nV (F := F) L d _).symm) $$ Hn
  ihave Hr' := (Entails.of_eq (pts_rV (F := F) L d _).symm) $$ Hr
  sl_exec
  -- the targets' copy holds the targets
  ihave Hs'' := (Entails.of_eq (show ((sV).view.loc (V d (cV L) (jV L)) ↦{fullShare} View.write (Elt F) (sV).view fs (tile_body.sl.dma0 tg) Finset.univ : sProp 𝕄)
      = (sV).view.loc (V d (cV L) (jV L)) ↦{fullShare} (tg : Buf (Elt F) ((sV).view.loc (V d (cV L) (jV L))))
      by rw [View.write_whole_univ]; rfl)) $$ Hs'
  -- the index list, pair by pair
  sl_for (tileInv (F := F) L d tg) $$ [Hs'' Hn']
  case region =>
    intro k acc
    exact trip (F := F) L k d tg acc htg
  · isplitl [Hs'']; · iexact Hs''
    iexists _; isplitl [Hn']; · iexact Hn'
    ipureintro
    intro y hy
    omega
  iintro %_ ⟨Hs, %f, Hn, %hf⟩
  have hf' : ListTo (F := F) L tg 256 ((nV).view.read (Elt F) f) := trips_eq ▸ hf
  have hin : ∀ x, (((nV).view.read (Elt F) f) x : BitVec 32).toNat < S81920000.size gathers_S81920000_S20480.axis := list_lt L tg htg _ hf'
  sl_exec
  sl_step
  have hv : ∀ x : S20480.Idx, tile_body.sl.dma0_1 (F := F) L d fx fr f hin x = gat tg fx ((oBlkK L).view.emb x) := by
    intro x
    have e : tile_body.sl.dma0_1 (F := F) L d fx fr f hin = tile_body.sl.gather0 (F := F) L d fx f hin := View.read_writes_whole (rV).view fr _
    rw [e]
    exact gather_eq (F := F) L d tg htg fx _ hf' _ hin x
  isplitl [Ht' Hx' Ho']
  · isplitl [Ht']; · iexact Ht'
    isplitl [Hx']; · iexact Hx'
    iapply (Entails.of_eq ((block_eq (F := F) L d fo _ _ hv).trans (pts_oBlkK (F := F) L d _))); iexact Ho'
  isplitl [Hs Hn Hr' Hbufs]
  · isplitl [Hs]; · iexists _; iexact Hs
    isplitl [Hn]; · iexists _; iexact Hn
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xV (Memref.isWhole_whole _) tV (Memref.isWhole_whole _) oV (Memref.isWhole_whole _)
            sV (Memref.isWhole_whole _) nV (Memref.isWhole_whole _) rV (Memref.isWhole_whole _) cc0_scratch3 cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.OfKernelIdeal
-- ==== Proof.SplitKernelIdeal.lean ====
/-
  The SparseCore call's operands among its tasks: every task reads the targets and the table at a share and writes its
  own block of the result.
-/
module

public import proofs.«01_k».proof.Proof.TileKernelIdeal

@[expose] public section

noncomputable section

namespace Cert.Proof.OfKernelIdeal

open Cert.KernelIdeal Cert.KernelIdeal.Gen
open Cert.Proof.IndexWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

theorem nCore_zero : (K (F := F)).nCore 0 = 2 := rfl

/-- Core `c`'s share, and task `(c, i)`'s part of it. -/
abbrev cq (c : Fin 2) : PosShare TreeShare := ShareLeaves.leaf 1 fullShare c
abbrev tq (c : Fin 2) (i : Fin 16) : PosShare TreeShare := ShareLeaves.leaf 4 (cq c) i
/-- Task `(c, i)`'s number. -/
abbrev taskN (c : Fin 2) (i : Fin 16) : Fin 32 := ⟨2 * i.val + c.val, by omega⟩

variable (tg : S32x64.Idx → Elt F .i32) (fx : S81920000.Idx → Elt F .f32) (fo : S655360.Idx → Elt F .f32)

abbrev goPts (d : Dev nD) (c : Fin 2) (i : Fin 16) (g : S655360.Idx → Elt F .f32) : sProp 𝕄 :=
  iprop(tPts d (tq c i) tg ∗ xPts d (tq c i) fx ∗ oBlkPts d (taskN c i) g)
abbrev stPts (d : Dev nD) (c : Fin 2) (g : S655360.Idx → Elt F .f32) : sProp 𝕄 :=
  iprop(tPts d (cq c) tg ∗ xPts d (cq c) fx ∗ bigSep Finset.univ fun i : Fin 16 => oBlkPts d (taskN c i) g)

/-- The call carries each core its share of the targets and of the table and its blocks of the result, and brings the
    blocks back gathered. -/
def P : (K (F := F)).Pay (nD := nD) (Val := Elt F) (Name := ℕ) (U := UU) where
  st := fun q d c => match q with | 0 => stPts tg fx d (Fin.cast nCore_zero c) fo
  dn := fun q d c => match q with | 0 => stPts tg fx d (Fin.cast nCore_zero c) (gat tg fx)
  go := fun q d c i => match q with | 0 => goPts tg fx d (Fin.cast nCore_zero c) (Fin.cast nSub_zero i) fo
  td := fun q d c i => match q with | 0 => goPts tg fx d (Fin.cast nCore_zero c) (Fin.cast nSub_zero i) (gat tg fx)
  x := fun _ _ => iprop(emp)

instance P_storable : (P tg fx fo).IsStorable where
  st q d c := match q with
    | 0 => (inferInstance : BI.Storable (upEmb : UEmb _ 𝕄) iprop(tPts d (cq (Fin.cast nCore_zero c)) tg ∗ xPts d (cq (Fin.cast nCore_zero c)) fx
        ∗ bigSep Finset.univ fun i : Fin 16 => oBlkPts d (taskN (Fin.cast nCore_zero c) i) fo))
  dn q d c := match q with
    | 0 => (inferInstance : BI.Storable (upEmb : UEmb _ 𝕄) iprop(tPts d (cq (Fin.cast nCore_zero c)) tg ∗ xPts d (cq (Fin.cast nCore_zero c)) fx
        ∗ bigSep Finset.univ fun i : Fin 16 => oBlkPts d (taskN (Fin.cast nCore_zero c) i) (gat tg fx)))
  go q d c i := match q with
    | 0 => (inferInstance : BI.Storable (upEmb : UEmb _ 𝕄) iprop(tPts d (tq (Fin.cast nCore_zero c) (Fin.cast nSub_zero i)) tg
        ∗ xPts d (tq (Fin.cast nCore_zero c) (Fin.cast nSub_zero i)) fx ∗ oBlkPts d (taskN (Fin.cast nCore_zero c) (Fin.cast nSub_zero i)) fo))
  td q d c i := match q with
    | 0 => (inferInstance : BI.Storable (upEmb : UEmb _ 𝕄) iprop(tPts d (tq (Fin.cast nCore_zero c) (Fin.cast nSub_zero i)) tg
        ∗ xPts d (tq (Fin.cast nCore_zero c) (Fin.cast nSub_zero i)) fx ∗ oBlkPts d (taskN (Fin.cast nCore_zero c) (Fin.cast nSub_zero i)) (gat tg fx)))

set_option maxRecDepth 16384 in
/-- Each task runs from its share. -/
theorem tileObl (hF : (K (F := F)).Facts) (htg : ∀ x, (tg x : BitVec 32).toNat < 10000) :
    (K (F := F)).TileObl (D (F := F)) 𝒱 (P tg fx fo) v₀ 0 := by
  intro d c i O W hO _ _
  simp only [show (P tg fx fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body (coordsV ⟨_, hci.1⟩ ⟨_, hci.2⟩) d tg hF htg fx fo (tq (Fin.cast nCore_zero c) (Fin.cast nSub_zero i)) (tq (Fin.cast nCore_zero c) (Fin.cast nSub_zero i)) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's operands are its tasks'. -/
theorem core_tasks (d : Dev nD) (c : Fin 2) (g : S655360.Idx → Elt F .f32) :
    stPts tg fx d c g = bigSep Finset.univ fun i : Fin 16 => goPts tg fx d c i g := by
  unfold stPts goPts
  rw [bigSep_sep', bigSep_sep']
  congr 1
  · exact ShareLeaves.pointsTo_leaves Finset.univ _ 4 (cq c)
  · congr 1
    exact ShareLeaves.pointsTo_leaves Finset.univ _ 4 (cq c)

theorem vecSplit : (K (F := F)).VecSplit' (P tg fx fo) 0 := by
  intro d c
  show stPts tg fx d (Fin.cast nCore_zero c) fo ⊢ |={Set.univ}=> iprop(
      (bigSep Finset.univ fun i : Fin ((K (F := F)).nSub 0) => goPts tg fx d (Fin.cast nCore_zero c) (Fin.cast nSub_zero i) fo)
      ∗ ((bigSep Finset.univ fun i : Fin ((K (F := F)).nSub 0) => goPts tg fx d (Fin.cast nCore_zero c) (Fin.cast nSub_zero i) (gat tg fx))
          -∗ stPts tg fx d (Fin.cast nCore_zero c) (gat tg fx)))
  rw [bigSep_tasks (F := F) (fun i => goPts tg fx d (Fin.cast nCore_zero c) i fo),
    bigSep_tasks (F := F) (fun i => goPts tg fx d (Fin.cast nCore_zero c) i (gat tg fx)), core_tasks, core_tasks]
  iintro H; imodintro
  isplitl [H]; · iexact H
  iintro H; iexact H

omit [FloatOps F] [Named F] in
theorem oSet_eq (w : Fin 32) : oSet w = (oblk w).set := by
  show ((Memref.whole main_v4_scv).view.slice (oblk w)).set = _
  rw [View.set_slice]; exact Finset.map_refl
omit [FloatOps F] [Named F] in
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit [FloatOps F] [Named F] in
theorem oSet_cover : (Finset.univ : Finset (Fin 32)).biUnion oSet = Finset.univ :=
  (Finset.biUnion_congr rfl fun i _ => oSet_eq i).trans (Rect.biUnion_part odiv)

/-- Core by core and task by task are all the tasks. -/
def taskEquiv : Fin 2 × Fin 16 ≃ Fin 32 where
  toFun p := taskN p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

abbrev oPts (d : Dev nD) (g : Buf (Elt F) (oLoc d)) : sProp 𝕄 := oLoc d ↦{fullShare} g

theorem oPts_blocks (d : Dev nD) (g : S655360.Idx → Elt F .f32) :
    oPts d g = bigSep Finset.univ fun c : Fin 2 => bigSep Finset.univ fun i : Fin 16 => (oBlkPts d (taskN c i) g : sProp 𝕄) := by
  have h1 : oPts d g = bigSep Finset.univ fun w : Fin 32 => (oBlkPts d w g : sProp 𝕄) := by
    show (oLoc d ↦{fullShare} g : sProp 𝕄) = _
    rw [← pointsTo_biUnion Finset.univ (ℓ := oLoc d) oSet oSet_disjoint, oSet_cover]; try rfl
  rw [h1, bigSep_univ_equiv taskEquiv, BI.bigSep_univ_prod]
  rfl

/-- What the call takes is the three buffers whole, and what it brings back them again. -/
theorem st_eq (d : Dev nD) (g : S655360.Idx → Elt F .f32) :
    (bigSep Finset.univ fun c : Fin ((K (F := F)).nCore 0) => stPts tg fx d (Fin.cast nCore_zero c) g)
      = iprop(tPts d fullShare tg ∗ xPts d fullShare fx ∗ oPts d g) := by
  rw [bigSep_cores (F := F) (fun c => stPts tg fx d c g), oPts_blocks]
  unfold stPts
  rw [bigSep_sep', bigSep_sep']
  congr 1
  · exact (ShareLeaves.pointsTo_leaves Finset.univ _ 1 fullShare).symm
  · congr 1
    exact (ShareLeaves.pointsTo_leaves Finset.univ _ 1 fullShare).symm

end Cert.Proof.OfKernelIdeal

end
-- ==== Proof.AttKernelIdeal.lean ====
/-
  The smoothed cross entropy's call: 16 points, each adding its 128 rows' sum to one word of scalar memory.
-/
module

public import proofs.«01_k».proof.Proof.TileKernelIdeal

@[expose] public section

noncomputable section

namespace Cert.Proof.OfKernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev ptA (c : Dev nD) {sp : Space} {S : Shape} {e : EltTy} (M : Memref sig .tc sp S e) (f : Bf (F := F) c M) : sProp 𝕄 :=
  M.view.loc (c : Thread nD τ) ↦[M.view.set]{fullShare} f

theorem att_first (c : Dev nD) (i : grid1.Coords) (hi : (i 0).val = 0)
    (M0 : Memref sig .tc .vmem S128x10000 .f32) (h0 : M0.IsWhole) (M1 : Memref sig .tc .vmem S1x128x1 .i32) (h1 : M1.IsWhole)
    (M2 : Memref sig .tc .smem S1x1 .f32) (h2 : M2.IsWhole) (f0 : Bf (F := F) c M0) (f1 : Bf (F := F) c M1) (f2 : Bf (F := F) c M2)
    (Q : PUnit → sProp 𝕄) :
    iprop(ptA c M0 f0 ∗ ptA c M1 f1 ∗ ptA c M2 f2 ∗
      (∀ g2, iprop(⌜M2.view.read (Elt F) g2 = fun _ => k1_pay1 (M0.view.read (Elt F) f0) (M1.view.read (Elt F) f1) (Scalar.ofBits .f32 0x00000000#32)⌝ ∗
        ptA c M0 f0 ∗ ptA c M1 f1 ∗ ptA c M2 g2 -∗ Q ⟨⟩)))
      ⊢ wp frame (wpE (defs₀ (F := F)) Variants.none c none) Set.univ (cc1__att_body i M0 h0 M1 h1 M2 h2) Q := by
  have hc : Scalar.cmpi .ne (Scalar.extui (Scalar.cmpi .eq (BitVec.ofNat 32 (i 0).val) 0#32) : BitVec 32) 0#32 = 1#1 := by
    rw [hi]; rfl
  iintro ⟨H0, H1, H2, Hk⟩
  rw [cc1__att_body_eq_skeleton]; unfold cc1__att_body_skel; rw [k1_part1_eq_skeleton]; unfold k1_part1_skel
  dsimp only
  simp only [dif_pos hc]
  sl_exec
  sl_step
  iapply Hk
  isplitr; swap; · isplitl [H0]; (· iexact H0); isplitl [H1]; (· iexact H1); iexact H2
  ipureintro
  have e0 : M0.view.readAt (Elt F) (Rect.unit ![0, 0] S128x10000.size inb_S128x10000_S128x10000_0_0).toLoadRect f0 = M0.view.read (Elt F) f0 :=
    View.readAt_full M0.view f0 inb_S128x10000_S128x10000_0_0
  have e1 : M1.view.readAt (Elt F) (Rect.unit ![0, 0, 0] S1x128x1.size inb_S1x128x1_S1x128x1_0_0_0).toLoadRect f1 = M1.view.read (Elt F) f1 :=
    View.readAt_full M1.view f1 inb_S1x128x1_S1x128x1_0_0_0
  refine (View.read_writes_full M2.view f2 inb_S1x1_S1x1_0_0 _ _).trans ?_
  funext x
  exact congr (congr (congrArg k1_pay1 e0) e1) rfl

theorem att_next (c : Dev nD) (i : grid1.Coords) (hi : (i 0).val ≠ 0)
    (M0 : Memref sig .tc .vmem S128x10000 .f32) (h0 : M0.IsWhole) (M1 : Memref sig .tc .vmem S1x128x1 .i32) (h1 : M1.IsWhole)
    (M2 : Memref sig .tc .smem S1x1 .f32) (h2 : M2.IsWhole) (f0 : Bf (F := F) c M0) (f1 : Bf (F := F) c M1) (f2 : Bf (F := F) c M2) (a : F .f32)
    (ha : M2.view.read (Elt F) f2 = fun _ => a)
    (Q : PUnit → sProp 𝕄) :
    iprop(ptA c M0 f0 ∗ ptA c M1 f1 ∗ ptA c M2 f2 ∗
      (∀ g2, iprop(⌜M2.view.read (Elt F) g2 = fun _ => k1_pay1 (M0.view.read (Elt F) f0) (M1.view.read (Elt F) f1) (a)⌝ ∗
        ptA c M0 f0 ∗ ptA c M1 f1 ∗ ptA c M2 g2 -∗ Q ⟨⟩)))
      ⊢ wp frame (wpE (defs₀ (F := F)) Variants.none c none) Set.univ (cc1__att_body i M0 h0 M1 h1 M2 h2) Q := by
  have hc : ¬ Scalar.cmpi .ne (Scalar.extui (Scalar.cmpi .eq (BitVec.ofNat 32 (i 0).val) 0#32) : BitVec 32) 0#32 = 1#1 := by
    have hb : (i 0).val < 16 := (i 0).isLt
    generalize (i 0).val = n at hi hb
    interval_cases n <;> first | exact absurd rfl hi | decide
  iintro ⟨H0, H1, H2, Hk⟩
  rw [cc1__att_body_eq_skeleton]; unfold cc1__att_body_skel; rw [k1_part1_eq_skeleton]; unfold k1_part1_skel
  dsimp only
  simp only [dif_neg hc]
  sl_exec
  sl_step
  iapply Hk
  isplitr; swap; · isplitl [H0]; (· iexact H0); isplitl [H1]; (· iexact H1); iexact H2
  ipureintro
  have e0 : M0.view.readAt (Elt F) (Rect.unit ![0, 0] S128x10000.size inb_S128x10000_S128x10000_0_0).toLoadRect f0 = M0.view.read (Elt F) f0 :=
    View.readAt_full M0.view f0 inb_S128x10000_S128x10000_0_0
  have e1 : M1.view.readAt (Elt F) (Rect.unit ![0, 0, 0] S1x128x1.size inb_S1x128x1_S1x128x1_0_0_0).toLoadRect f1 = M1.view.read (Elt F) f1 :=
    View.readAt_full M1.view f1 inb_S1x128x1_S1x128x1_0_0_0
  refine (View.read_writes_full M2.view f2 inb_S1x1_S1x1_0_0 _ _).trans ?_
  funext x
  exact congr (congr (congrArg k1_pay1 e0) e1) (congrFun ha _)

end Cert.Proof.OfKernelIdeal

end
-- ==== Proof.CtcKernelIdeal.lean ====
/-
  The alignment loss's call: one point, whose loop carries the forward scores of the blanks and of the labels through
  the frames.
-/
module

public import proofs.«01_k».proof.Proof.AttKernelIdeal

@[expose] public section

noncomputable section

namespace Cert.Proof.OfKernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- Frame `k + 1` of the table, as the loop's trip `k` loads it, and frame 0. -/
def frameAt (X : S256x32x80.Idx → Elt F .f32) (k : Fin k2_t1_loop.trips) : Vec F S1x32x80 .f32 :=
  fun y => X ((Rect.unit (s := S256x32x80) (k2_off1 k) S1x32x80.size (k2_off1_inb k)).idx y)
def frameZero (X : S256x32x80.Idx → Elt F .f32) : Vec F S1x32x80 .f32 :=
  fun y => X ((Rect.unit (s := S256x32x80) ![0, 0, 0] S1x32x80.size inb_S256x32x80_S1x32x80_0_0_0).idx y)

/-- One trip of the loop on the two carried score tables. -/
def ctcStep (X : S256x32x80.Idx → Elt F .f32) (v0 : Vec F S32x64 .i32) (v5 : Vec F S32x1 .i32) (k : Fin k2_t1_loop.trips)
    (a : FVec F S32x65 .f32 × FVec F S32x64 .f32) : FVec F S32x65 .f32 × FVec F S32x64 .f32 :=
  (k2_pay6 (k2_pay8 v5) 1#32 1#32 k a.1 a.2 (frameAt X k),
    k2_pay13 a.2 (k2_pay4 (k2_pay7 v0) a.1 a.2 (frameAt X k)) (k2_pay5 (k2_pay8 v5) 1#32 1#32 k))

/-- The carried score tables before trip `k`. -/
def ctcSt (X : S256x32x80.Idx → Elt F .f32) (v0 : Vec F S32x64 .i32) (v5 : Vec F S32x1 .i32) : ℕ → FVec F S32x65 .f32 × FVec F S32x64 .f32
  | 0 => (k2_pay11 (frameZero X), k2_pay12 (frameZero X))
  | k + 1 => if h : k < k2_t1_loop.trips then ctcStep X v0 v5 ⟨k, h⟩ (ctcSt X v0 v5 k) else ctcSt X v0 v5 k

theorem ctcSt_succ (X : S256x32x80.Idx → Elt F .f32) (v0 : Vec F S32x64 .i32) (v5 : Vec F S32x1 .i32) (k : Fin k2_t1_loop.trips) :
    ctcSt X v0 v5 (k.val + 1) = ctcStep X v0 v5 k (ctcSt X v0 v5 k.val) := by
  rw [ctcSt, dif_pos k.isLt]

/-- The loss the call leaves. -/
def ctcOut (X : S256x32x80.Idx → Elt F .f32) (v0 : Vec F S32x64 .i32) (v5 v7 : Vec F S32x1 .i32) : F .f32 :=
  k2_pay1 (ctcSt X v0 v5 k2_t1_loop.trips).2 (k2_pay14 v7 (ctcSt X v0 v5 k2_t1_loop.trips).1) (k2_pay15 v7) (Scalar.ofBits .f32 0x00000000#32)

section body
variable (c : Dev nD)
    (M0 : Memref sig .tc .vmem S256x32x80 .f32) (h0 : M0.IsWhole) (M1 : Memref sig .tc .vmem S32x64 .i32) (h1 : M1.IsWhole)
    (M2 : Memref sig .tc .vmem S32x1 .i32) (h2 : M2.IsWhole) (M3 : Memref sig .tc .vmem S32x1 .i32) (h3 : M3.IsWhole)
    (M4 : Memref sig .tc .smem S1x1 .f32) (h4 : M4.IsWhole)
    (f0 : Bf (F := F) c M0) (f1 : Bf (F := F) c M1) (f2 : Bf (F := F) c M2) (f3 : Bf (F := F) c M3) (f4 : Bf (F := F) c M4)

/-- Before trip `k` the loop carries the scores of the frames so far. -/
abbrev ctcInv (v0 : Vec F S32x64 .i32) (v5 : Vec F S32x1 .i32) (k : ℕ) (a : FVec F S32x65 .f32 × FVec F S32x64 .f32) : sProp 𝕄 :=
  iprop(ptA c M0 f0 ∗ ⌜a = ctcSt (M0.view.read (Elt F) f0) v0 v5 k⌝)

theorem ctc_trip (v0 : Vec F S32x64 .i32) (v5 : Vec F S32x1 .i32) (k : Fin k2_t1_loop.trips) (a : FVec F S32x65 .f32 × FVec F S32x64 .f32) :
    ctcInv c M0 f0 v0 v5 k.val a
      ⊢ wp frame (wpE (defs₀ (F := F)) Variants.none c none) Set.univ (k2_t1_body (F := F) M0 h0 M1 h1 M2 h2 M3 h3 M4 h4 v0 v5 k a)
        (fun b => ctcInv c M0 f0 v0 v5 (k.val + 1) b) := by
  obtain ⟨a1, a2⟩ := a
  unfold k2_t1_body
  rw [k2_part1_eq_skeleton]; unfold k2_part1_skel
  iintro ⟨H0, %ha⟩
  sl_exec
  sl_step
  isplitl [H0]; · iexact H0
  ipureintro
  rw [ctcSt_succ, ← ha]
  rfl

theorem ctc_run (Q : PUnit → sProp 𝕄) :
    iprop(ptA c M0 f0 ∗ ptA c M1 f1 ∗ ptA c M2 f2 ∗ ptA c M3 f3 ∗ ptA c M4 f4 ∗
      (∀ g4, iprop(⌜M4.view.read (Elt F) g4 = fun _ => ctcOut (M0.view.read (Elt F) f0) (M1.view.read (Elt F) f1) (M2.view.read (Elt F) f2) (M3.view.read (Elt F) f3)⌝ ∗
        ptA c M0 f0 ∗ ptA c M1 f1 ∗ ptA c M2 f2 ∗ ptA c M3 f3 ∗ ptA c M4 g4 -∗ Q ⟨⟩)))
      ⊢ wp frame (wpE (defs₀ (F := F)) Variants.none c none) Set.univ (cc2__ctc_body M0 h0 M1 h1 M2 h2 M3 h3 M4 h4) Q := by
  have e1 : M1.view.readAt (Elt F) (Rect.unit ![0, 0] S32x64.size inb_S32x64_S32x64_0_0).toLoadRect f1 = M1.view.read (Elt F) f1 :=
    View.readAt_full M1.view f1 inb_S32x64_S32x64_0_0
  have e2 : M2.view.readAt (Elt F) (Rect.unit ![0, 0] S32x1.size inb_S32x1_S32x1_0_0).toLoadRect f2 = M2.view.read (Elt F) f2 :=
    View.readAt_full M2.view f2 inb_S32x1_S32x1_0_0
  have e3 : M3.view.readAt (Elt F) (Rect.unit ![0, 0] S32x1.size inb_S32x1_S32x1_0_0).toLoadRect f3 = M3.view.read (Elt F) f3 :=
    View.readAt_full M3.view f3 inb_S32x1_S32x1_0_0
  iintro ⟨H0, H1, H2, H3, H4, Hk⟩
  rw [cc2__ctc_body_eq_skeleton]; unfold cc2__ctc_body_skel; rw [k2_part2_eq_skeleton]; unfold k2_part2_skel
  dsimp only
  sl_exec
  rw [wp_bind]
  sl_for (ctcInv c M0 f0 (M1.view.read (Elt F) f1) (M2.view.read (Elt F) f2)) $$ [H0]
  case region =>
    intro k a
    exact ctc_trip c M0 h0 M1 h1 M2 h2 M3 h3 M4 h4 f0 _ _ k a
  · isplitl [H0]; · iexact H0
    ipureintro
    rfl
  iintro %a ⟨H0, %ha⟩
  subst ha
  sl_exec
  sl_step
  iapply Hk
  isplitr; swap
  · isplitl [H0]; (· iexact H0); isplitl [H1]; (· iexact H1); isplitl [H2]; (· iexact H2); isplitl [H3]; (· iexact H3); iexact H4
  ipureintro
  refine (View.read_writes_full M4.view f4 inb_S1x1_S1x1_0_0 _ _).trans ?_
  funext x
  rfl
end body

end Cert.Proof.OfKernelIdeal

end
-- ==== Proof.RegionKernelIdeal.lean ====
/-
  The two TensorCore calls as regions of the program: what each finds in the unscoped buffers and what it leaves there.
-/
module

public import proofs.«01_k».proof.Proof.CtcKernelIdeal
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit.Geometry

@[expose] public section

noncomputable section

namespace Cert.Proof.OfKernelIdeal

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- The waits a core may have recorded once its SparseCore call is over. -/
abbrev recd (b : ℕ) (c : Dev nD) : Set (SemLoc sig × HIx 1) := {p | (K (F := F)).lev (T c, p.1) p.2 ≤ b}

abbrev Vals : Type := (c : Dev nD) → (b : Ref sig .tc) → Buf (Elt F) ((c : Thread nD τ).loc b)
variable (V : Vals (F := F)) (b : ℕ)

/-! ## The cross entropy's call -/

/-- Point `t`'s block of the scores and of the labels. -/
abbrev attX (c : Dev nD) (t : Fin cfg1.N) : S128x10000.Idx → Elt F .f32 := ((cfg1.win 0).blk t).view.read (Elt F) (V c main_v6)
abbrev attL (c : Dev nD) (t : Fin cfg1.N) : S1x128x1.Idx → Elt F .i32 := ((cfg1.win 1).blk t).view.read (Elt F) (V c main_v8)

/-- The word of scalar memory before point `n`. -/
def attAcc (c : Dev nD) : ℕ → F .f32
  | 0 => Scalar.ofBits .f32 0x00000000#32
  | n + 1 => if h : n < cfg1.N then k1_pay1 (attX V c ⟨n, h⟩) (attL V c ⟨n, h⟩) (attAcc c n) else attAcc c n

theorem attAcc_succ (c : Dev nD) (t : Fin cfg1.N) : attAcc V c (t.val + 1) = k1_pay1 (attX V c t) (attL V c t) (attAcc V c t.val) := by
  rw [attAcc, dif_pos t.isLt]

abbrev ΦA (c : Dev nD) : sProp 𝕄 := Pipeline.scopedRest (Ix := HIx 1) (Name := ℕ) (U := UU) (Lvl := ℕ) (Val := Elt F) spec1 c
abbrev ΦC (c : Dev nD) : sProp 𝕄 := Pipeline.scopedRest (Ix := HIx 1) (Name := ℕ) (U := UU) (Lvl := ℕ) (Val := Elt F) spec2 c

def datA (c : Dev nD) : Dat τ (Elt F) (HIx 1) ℕ UU ℕ cfg1 c where
  A w := V c (Pipeline.arrRef spec1 w)
  after w t := match w with
    | ⟨0, _⟩ => attX V c t
    | ⟨1, _⟩ => attL V c t
    | ⟨2, _⟩ => fun _ => attAcc V c (t.val + 1)
  Φ _ := ΦA c
  q _ := fullShare
  owed _ := 0
  recorded _ := recd (F := F) b c

/-! ## The alignment loss's call -/

abbrev ctcX (c : Dev nD) : S256x32x80.Idx → Elt F .f32 := ((cfg2.win 0).blk t2_0).view.read (Elt F) (V c main_v5)
abbrev ctcT (c : Dev nD) : S32x64.Idx → Elt F .i32 := ((cfg2.win 1).blk t2_0).view.read (Elt F) (V c main_arg3)
abbrev ctcI (c : Dev nD) : S32x1.Idx → Elt F .i32 := ((cfg2.win 2).blk t2_0).view.read (Elt F) (V c main_v11)
abbrev ctcL (c : Dev nD) : S32x1.Idx → Elt F .i32 := ((cfg2.win 3).blk t2_0).view.read (Elt F) (V c main_v12)

def datC (c : Dev nD) : Dat τ (Elt F) (HIx 1) ℕ UU ℕ cfg2 c where
  A w := V c (Pipeline.arrRef spec2 w)
  after w _ := match w with
    | ⟨0, _⟩ => ctcX V c
    | ⟨1, _⟩ => ctcT V c
    | ⟨2, _⟩ => ctcI V c
    | ⟨3, _⟩ => ctcL V c
    | ⟨4, _⟩ => fun _ => ctcOut (ctcX V c) (ctcT V c) (ctcI V c) (ctcL V c)
  Φ _ := ΦC c
  q _ := fullShare
  owed _ := 0
  recorded _ := recd (F := F) b c

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => datA V b c
  | ⟨1, _⟩ => fun c => datC V b c

theorem beforeA_0 (c : Dev nD) (t : Fin cfg1.N) (d : (cfg1.win 0).block.Idx → Elt F (cfg1.win 0).elt) : (datA V b c).before 0 t d = attX V c t := by
  rw [Dat.before_fetched _ _ _ (fetch1_0 t)]; rfl
theorem beforeA_1 (c : Dev nD) (t : Fin cfg1.N) (d : (cfg1.win 1).block.Idx → Elt F (cfg1.win 1).elt) : (datA V b c).before 1 t d = attL V c t := by
  rw [Dat.before_fetched _ _ _ (fetch1_1 t)]; rfl
theorem beforeA_2 (c : Dev nD) (t : Fin cfg1.N) (ht : t.val ≠ 0) (d : (cfg1.win 2).block.Idx → Elt F (cfg1.win 2).elt) :
    (datA V b c).before 2 t d = fun _ => attAcc V c t.val := by
  rw [Dat.before_out_kept (datA V b c) 2 rfl t ht ?_ (fun _ => rfl) (fun _ _ => rfl) d]
  · show (fun _ => attAcc V c (t.val - 1 + 1)) = _
    rw [Nat.sub_add_cancel (Nat.pos_of_ne_zero ht)]
  · have hN : t.val < 16 := lt_of_lt_of_eq t.isLt N_1
    refine Bool.eq_false_iff.mpr fun h => ?_
    have := (flush1_2 _).mp h
    simp only at this
    omega

theorem coords_zero (t : Fin cfg1.N) : (grid1.coords t 0).val = t.val := by
  have := N_1
  revert t
  decide

theorem body_obligationA (c : Dev nD) : BodyObligation (datA V b c) (defs₀ (F := F)) 𝒱₀ (none : HIx 1) Set.univ := fun t => by
  rw [bigSep_W1, bigSep_W1]
  dsimp only
  rw [show (datA V b c).Φ t.castSucc = ΦA c from rfl, show (datA V b c).Φ t.succ = ΦA c from rfl,
    show (datA V b c).owesAt none t.succ = (datA V b c).owesAt none t.castSucc from rfl]
  unfold owns
  iintro ⟨HΦ, Howes, ⟨%d0, %f0, %hf0, H0⟩, ⟨%d1, %f1, %hf1, H1⟩, ⟨%d2, %f2, %hf2, H2⟩⟩
  rw [beforeA_0] at hf0
  rw [beforeA_1] at hf1
  by_cases ht : t.val = 0
  · iapply (att_first c (grid1.coords t) ((coords_zero t).trans ht) (st1_0 t) (hstage1_0 ((cfg1.slots t 0).cast nbuf1_0)) (st1_1 t) (hstage1_1 ((cfg1.slots t 1).cast nbuf1_1)) (st1_2 t) (hstage1_2 ((cfg1.slots t 2).cast nbuf1_2)) f0 f1 f2 _)
    isplitl [H0]; · iexact H0
    isplitl [H1]; · iexact H1
    isplitl [H2]; · iexact H2
    iintro %g2 ⟨%hg2, H0, H1, H2⟩
    isplitl [HΦ]; · iexact HΦ
    isplitl [Howes]; · iexact Howes
    isplitl [H0]; · iexists f0; isplitr; swap; (· iexact H0); ipureintro; exact hf0
    isplitl [H1]; · iexists f1; isplitr; swap; (· iexact H1); ipureintro; exact hf1
    iexists g2; isplitr; swap; (· iexact H2); ipureintro
    rw [hg2, hf0, hf1]
    show _ = fun _ => attAcc V c (t.val + 1)
    rw [attAcc_succ, ht]; rfl
  · rw [beforeA_2 V b c t ht] at hf2
    iapply (att_next c (grid1.coords t) (fun h => ht ((coords_zero t).symm.trans h)) (st1_0 t) (hstage1_0 ((cfg1.slots t 0).cast nbuf1_0)) (st1_1 t) (hstage1_1 ((cfg1.slots t 1).cast nbuf1_1)) (st1_2 t) (hstage1_2 ((cfg1.slots t 2).cast nbuf1_2)) f0 f1 f2 _ hf2 _)
    isplitl [H0]; · iexact H0
    isplitl [H1]; · iexact H1
    isplitl [H2]; · iexact H2
    iintro %g2 ⟨%hg2, H0, H1, H2⟩
    isplitl [HΦ]; · iexact HΦ
    isplitl [Howes]; · iexact Howes
    isplitl [H0]; · iexists f0; isplitr; swap; (· iexact H0); ipureintro; exact hf0
    isplitl [H1]; · iexists f1; isplitr; swap; (· iexact H1); ipureintro; exact hf1
    iexists g2; isplitr; swap; (· iexact H2); ipureintro
    rw [hg2, hf0, hf1]
    show _ = fun _ => attAcc V c (t.val + 1)
    rw [attAcc_succ]

theorem beforeC_0 (c : Dev nD) (d : (cfg2.win 0).block.Idx → Elt F (cfg2.win 0).elt) : (datC V b c).before 0 t2_0 d = ctcX V c := by
  rw [Dat.before_fetched _ _ _ (fetch2_0 t2_0)]; rfl
theorem beforeC_1 (c : Dev nD) (d : (cfg2.win 1).block.Idx → Elt F (cfg2.win 1).elt) : (datC V b c).before 1 t2_0 d = ctcT V c := by
  rw [Dat.before_fetched _ _ _ (fetch2_1 t2_0)]; rfl
theorem beforeC_2 (c : Dev nD) (d : (cfg2.win 2).block.Idx → Elt F (cfg2.win 2).elt) : (datC V b c).before 2 t2_0 d = ctcI V c := by
  rw [Dat.before_fetched _ _ _ (fetch2_2 t2_0)]; rfl
theorem beforeC_3 (c : Dev nD) (d : (cfg2.win 3).block.Idx → Elt F (cfg2.win 3).elt) : (datC V b c).before 3 t2_0 d = ctcL V c := by
  rw [Dat.before_fetched _ _ _ (fetch2_3 t2_0)]; rfl

theorem body_obligationC (c : Dev nD) : BodyObligation (datC V b c) (defs₀ (F := F)) 𝒱₀ (none : HIx 1) Set.univ := fun t => by
  obtain rfl := fin_N2 t
  rw [bigSep_W2, bigSep_W2]
  dsimp only
  rw [show (datC V b c).Φ t2_0.castSucc = ΦC c from rfl, show (datC V b c).Φ t2_0.succ = ΦC c from rfl,
    show (datC V b c).owesAt none t2_0.succ = (datC V b c).owesAt none t2_0.castSucc from rfl]
  unfold owns
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩⟩
  rw [beforeC_0] at hf0
  rw [beforeC_1] at hf1
  rw [beforeC_2] at hf2
  rw [beforeC_3] at hf3
  iapply (ctc_run c (st2_0 t2_0) (hstage2_0 0) (st2_1 t2_0) (hstage2_1 0) (st2_2 t2_0) (hstage2_2 0) (st2_3 t2_0) (hstage2_3 0) (st2_4 t2_0) (hstage2_4 0) f0 f1 f2 f3 f4 _)
  isplitl [H0]; · iexact H0
  isplitl [H1]; · iexact H1
  isplitl [H2]; · iexact H2
  isplitl [H3]; · iexact H3
  isplitl [H4]; · iexact H4
  iintro %g4 ⟨%hg4, H0, H1, H2, H3, H4⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  iexists g4; isplitr; swap; (· iexact H4); ipureintro
  rw [hg4, hf0, hf1, hf2, hf3]
  rfl

/-! ## What each call leaves in its result -/

theorem arrA (c : Dev nD) : (datA V b c).arrAt 2 cfg1.N = fun _ => attAcc V c 16 := by
  refine (datA V b c).arrAt_eq_of_after_last 2 t1_15 (by decide +kernel) _ fun j => ?_
  rfl

theorem arrC (c : Dev nD) : (datC V b c).arrAt 4 cfg2.N = fun _ => ctcOut (ctcX V c) (ctcT V c) (ctcI V c) (ctcL V c) := by
  refine (datC V b c).arrAt_eq_of_after_last 4 t2_0 (by decide +kernel) _ fun j => ?_
  rfl

/-! ## The regions -/

/-- A core that owes nothing, its recorded waits at levels up to `b`. -/
abbrev owesUpTo (c : Dev nD) : sProp 𝕄 :=
  iprop(∃ W, ⌜(K (F := F)).WBelow (T c) W b⌝ ∗ owes (T c) (0 : CellTallies nD τ sig (HIx 1)) W)

variable (Vp : Vals (F := F))

-- a launch fact about a call is used at that call's own configuration, which unification must unfold
set_option backward.isDefEq.respectTransparency.types false in
/-- The region: from every unscoped buffer at `V` to every unscoped buffer at `Vp`, which is `V` but for the result. -/
def regA (R : Dev nD → sProp 𝕄) (hVp_out : ∀ c, Vp c main_v9 = (datA V b c).arrAt 2 cfg1.N)
    (hVp_ne : ∀ c (r : Ref sig .tc), r ≠ main_v9 → Vp c r = V c r) :
    Pipeline.RegionSeg (pcfgs (F := F)) adm (pdats V b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligationA V b c).loose
  hwaits := Pipeline.hwaits_of_owed_zero _ _ _ _ (K (F := F)).L (K (F := F)).lev 0 fun _ _ => rfl
  pre c := iprop(unscopedBufs c (V c) ∗ R c ∗ owesUpTo (F := F) b c)
  post c := iprop(unscopedBufs c (Vp c) ∗ R c ∗ owesUpTo (F := F) b c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V b) launch1.win launch1.arr_whole c
      ((pdats V b 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitr; · iempintro
    isplitl [Hrest] <;> iassumption
  hin c := by
    rw [show (pdats V b 0 c).Φ 0 = ΦA c from rfl]
    iintro ⟨-, -, Hr⟩; iexact Hr
  hout c := by
    rw [Pipeline.ownSems0_none, show (pdats V b 0 c).Φ (Fin.last _) = ΦA c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V b) ((pdats V b 0 c).share_full fun _ => rfl) (V c) (Vp c) ((pdats V b 0 c).arrAt · cfg1.N)
      (fun w => by
        fin_cases w
        · exact ((pdats V b 0 c).arrAt_in 0 rfl _).trans (hVp_ne c main_v6 (by decide)).symm
        · exact ((pdats V b 0 c).arrAt_in 1 rfl _).trans (hVp_ne c main_v8 (by decide)).symm
        · exact (hVp_out c).symm)
      (fun r hr => hVp_ne c r fun h => hr (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr; swap; (· iexact HO); ipureintro
    intro q hq
    rcases hW (Finset.mem_coe.mpr hq) with h | ⟨w, s, rfl⟩
    · exact h
    · exact Nat.zero_le _

-- a launch fact about a call is used at that call's own configuration, which unification must unfold
set_option backward.isDefEq.respectTransparency.types false in
/-- The region: from every unscoped buffer at `V` to every unscoped buffer at `Vp`, which is `V` but for the result. -/
def regC (R : Dev nD → sProp 𝕄) (hVp_out : ∀ c, Vp c main_v13 = (datC V b c).arrAt 4 cfg2.N)
    (hVp_ne : ∀ c (r : Ref sig .tc), r ≠ main_v13 → Vp c r = V c r) :
    Pipeline.RegionSeg (pcfgs (F := F)) adm (pdats V b) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligationC V b c).loose
  hwaits := Pipeline.hwaits_of_owed_zero _ _ _ _ (K (F := F)).L (K (F := F)).lev 1 fun _ _ => rfl
  pre c := iprop(unscopedBufs c (V c) ∗ R c ∗ owesUpTo (F := F) b c)
  post c := iprop(unscopedBufs c (Vp c) ∗ R c ∗ owesUpTo (F := F) b c)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats V b) launch2.win launch2.arr_whole c
      ((pdats V b 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitr; · iempintro
    isplitl [Hrest] <;> iassumption
  hin c := by
    rw [show (pdats V b 1 c).Φ 0 = ΦC c from rfl]
    iintro ⟨-, -, Hr⟩; iexact Hr
  hout c := by
    rw [Pipeline.ownSems0_none, show (pdats V b 1 c).Φ (Fin.last _) = ΦC c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V b) ((pdats V b 1 c).share_full fun _ => rfl) (V c) (Vp c) ((pdats V b 1 c).arrAt · cfg2.N)
      (fun w => by
        fin_cases w
        · exact ((pdats V b 1 c).arrAt_in 0 rfl _).trans (hVp_ne c main_v5 (by decide)).symm
        · exact ((pdats V b 1 c).arrAt_in 1 rfl _).trans (hVp_ne c main_arg3 (by decide)).symm
        · exact ((pdats V b 1 c).arrAt_in 2 rfl _).trans (hVp_ne c main_v11 (by decide)).symm
        · exact ((pdats V b 1 c).arrAt_in 3 rfl _).trans (hVp_ne c main_v12 (by decide)).symm
        · exact (hVp_out c).symm)
      (fun r hr => hVp_ne c r fun h => hr (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr; swap; (· iexact HO); ipureintro
    intro q hq
    rcases hW (Finset.mem_coe.mpr hq) with h | ⟨w, s, rfl⟩
    · exact h
    · exact Nat.zero_le _

end Cert.Proof.OfKernelIdeal

end
-- ==== Proof.RunKernelIdeal.lean ====
/-
  The program's run: host operations, the SparseCore call, host operations, the two TensorCore calls and the last host
  operations, over all of the TensorCore's unscoped buffers at named contents.
-/
module

public import proofs.«01_k».proof.Proof.SplitKernelIdeal
public import proofs.«01_k».proof.Proof.RegionKernelIdeal
public import Idealize.ShloMosaic.Lib.Pipeline.Frame
public import Idealize.ShloMosaic.Lib.SparseCore.Quiescent

@[expose] public section

noncomputable section

namespace Cert.Proof.OfKernelIdeal

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## The host operations between the calls -/

def opsA : List (HloOp τ sig (Elt F)) :=
  [StableHlo.unary main_arg2 main_v0 ((transpose S32x10000x256 [1, 2, 0] · transposes_S256x32x10000_S32x10000x256_1_2_0) : (⟨S256x32x10000, .f32⟩ : BufTy).Contents (Elt F) → (⟨S32x10000x256, .f32⟩ : BufTy).Contents (Elt F)),
   StableHlo.reshape main_v0 main_v1 (rfl : (.f32 : EltTy) = .f32) shapeCasts_S32x10000x256_S32x1250x8x2x128,
   StableHlo.unary main_v1 main_v2 ((transpose S32x1250x2x8x128 [0, 1, 3, 2, 4] · transposes_S32x1250x8x2x128_S32x1250x2x8x128_0_1_3_2_4) : (⟨S32x1250x8x2x128, .f32⟩ : BufTy).Contents (Elt F) → (⟨S32x1250x2x8x128, .f32⟩ : BufTy).Contents (Elt F)),
   StableHlo.reshape main_v2 main_v3 (rfl : (.f32 : EltTy) = .f32) shapeCasts_S32x1250x2x8x128_S81920000]
def opsB : List (HloOp τ sig (Elt F)) :=
  [StableHlo.reshape main_v4 main_v5 (rfl : (.f32 : EltTy) = .f32) shapeCasts_S655360_S256x32x80,
   StableHlo.reshape main_arg0 main_v6 (rfl : (.f32 : EltTy) = .f32) shapeCasts_S32x64x10000_S2048x10000,
   StableHlo.reshape main_arg1 main_v7 (rfl : (.i32 : EltTy) = .i32) shapeCasts_S32x64_S2048,
   StableHlo.reshape main_v7 main_v8 (rfl : (.i32 : EltTy) = .i32) shapeCasts_S2048_S16x128x1]
def opsC : List (HloOp τ sig (Elt F)) :=
  [StableHlo.reshape main_v9 main_v10 (rfl : (.f32 : EltTy) = .f32) shapeCasts_S1x1_S_,
   StableHlo.reshape main_arg4 main_v11 (rfl : (.i32 : EltTy) = .i32) shapeCasts_S32_S32x1,
   StableHlo.reshape main_arg5 main_v12 (rfl : (.i32 : EltTy) = .i32) shapeCasts_S32_S32x1]
def opsD : List (HloOp τ sig (Elt F)) :=
  [StableHlo.reshape main_v13 main_v14 (rfl : (.f32 : EltTy) = .f32) shapeCasts_S1x1_S_,
   StableHlo.nullary main_cst (constant S_ .f32 0x3F000000#32),
   StableHlo.binary main_cst main_v10 main_v15 (mulf : (⟨S_, .f32⟩ : BufTy).Contents (Elt F) → (⟨S_, .f32⟩ : BufTy).Contents (Elt F) → (⟨S_, .f32⟩ : BufTy).Contents (Elt F)),
   StableHlo.nullary main_cst_0 (constant S_ .f32 0x3F000000#32),
   StableHlo.binary main_cst_0 main_v14 main_v16 (mulf : (⟨S_, .f32⟩ : BufTy).Contents (Elt F) → (⟨S_, .f32⟩ : BufTy).Contents (Elt F) → (⟨S_, .f32⟩ : BufTy).Contents (Elt F)),
   StableHlo.binary main_v15 main_v16 main_v17 (addf : (⟨S_, .f32⟩ : BufTy).Contents (Elt F) → (⟨S_, .f32⟩ : BufTy).Contents (Elt F) → (⟨S_, .f32⟩ : BufTy).Contents (Elt F))]

theorem main_eq (d : Dev nD) : main (F := F) d = (StableHlo.seq opsA >>= fun _ => (K (F := F)).run d 0 >>= fun _ => StableHlo.seq opsB >>= fun _ =>
    Prog.lift (.customCall (SparseCore.inner (Pipeline.entry 0)) ()) >>= fun _ => StableHlo.seq opsC >>= fun _ =>
    Prog.lift (.customCall (SparseCore.inner (Pipeline.entry 1)) ()) >>= fun _ => StableHlo.seq opsD >>= fun _ => pure ⟨⟩) := by
  chain_rfl

variable (m : (ℓ : Loc nD τ sig) → Buf (Elt F) ℓ) (ρ : Dev nD → PrngReg)

/-! ## The buffers' contents along the program -/

/-- At launch; -/
def V0 (d : Dev nD) : Valuation τ sig (Elt F) := fun b => m (d, b)
/-- when the SparseCore call starts; -/
def V1 (d : Dev nD) : Valuation τ sig (Elt F) := StableHlo.after opsA (V0 m d)
/-- when it has ended; -/
def V2 (d : Dev nD) : Valuation τ sig (Elt F) :=
  Function.update (V1 m d) (Proc.devRef .tc main_v4) (gat (V1 m d (Proc.devRef .tc main_arg3)) (V1 m d (Proc.devRef .tc main_v3)))
/-- when the cross entropy's call is entered; -/
def V3 (d : Dev nD) : Valuation τ sig (Elt F) := StableHlo.after opsB (V2 m d)
/-- and left; -/
def V4 (d : Dev nD) : Valuation τ sig (Elt F) :=
  Function.update (V3 m d) (Proc.devRef .tc main_v9) (fun _ => attAcc (fun c b => V3 m c (Proc.devRef .tc b)) d 16)
/-- when the last call is entered; -/
def V5 (d : Dev nD) : Valuation τ sig (Elt F) := StableHlo.after opsC (V4 m d)
/-- and left; -/
def V6 (d : Dev nD) : Valuation τ sig (Elt F) :=
  Function.update (V5 m d) (Proc.devRef .tc main_v13) (fun _ => ctcOut (ctcX (fun c b => V5 m c (Proc.devRef .tc b)) d) (ctcT (fun c b => V5 m c (Proc.devRef .tc b)) d)
    (ctcI (fun c b => V5 m c (Proc.devRef .tc b)) d) (ctcL (fun c b => V5 m c (Proc.devRef .tc b)) d))
/-- and at the end. -/
def V7 (d : Dev nD) : Valuation τ sig (Elt F) := StableHlo.after opsD (V6 m d)

abbrev uc : Finset (DevRef τ sig) := Pipeline.ucRefs τ sig

theorem subA : ∀ op ∈ (opsA : List (HloOp τ sig (Elt F))), op.bufs ⊆ uc := by
  intro op h; refine Pipeline.sub_ucRefs op ?_
  simp only [opsA, List.mem_cons, List.mem_nil_iff, or_false] at h
  rcases h with rfl | rfl | rfl | rfl <;> simp
theorem subB : ∀ op ∈ (opsB : List (HloOp τ sig (Elt F))), op.bufs ⊆ uc := by
  intro op h; refine Pipeline.sub_ucRefs op ?_
  simp only [opsB, List.mem_cons, List.mem_nil_iff, or_false] at h
  rcases h with rfl | rfl | rfl | rfl <;> simp
theorem subC : ∀ op ∈ (opsC : List (HloOp τ sig (Elt F))), op.bufs ⊆ uc := by
  intro op h; refine Pipeline.sub_ucRefs op ?_
  simp only [opsC, List.mem_cons, List.mem_nil_iff, or_false] at h
  rcases h with rfl | rfl | rfl <;> simp
theorem subD : ∀ op ∈ (opsD : List (HloOp τ sig (Elt F))), op.bufs ⊆ uc := by
  intro op h; refine Pipeline.sub_ucRefs op ?_
  simp only [opsD, List.mem_cons, List.mem_nil_iff, or_false] at h
  rcases h with rfl | rfl | rfl | rfl | rfl | rfl <;> simp
theorem freshA : ∀ op ∈ (opsA : List (HloOp τ sig (Elt F))), op.fresh = ∅ := by
  intro op h; simp only [opsA, List.mem_cons, List.mem_nil_iff, or_false] at h
  rcases h with rfl | rfl | rfl | rfl <;> rfl
theorem freshB : ∀ op ∈ (opsB : List (HloOp τ sig (Elt F))), op.fresh = ∅ := by
  intro op h; simp only [opsB, List.mem_cons, List.mem_nil_iff, or_false] at h
  rcases h with rfl | rfl | rfl | rfl <;> rfl
theorem freshC : ∀ op ∈ (opsC : List (HloOp τ sig (Elt F))), op.fresh = ∅ := by
  intro op h; simp only [opsC, List.mem_cons, List.mem_nil_iff, or_false] at h
  rcases h with rfl | rfl | rfl <;> rfl
theorem freshD : ∀ op ∈ (opsD : List (HloOp τ sig (Elt F))), op.fresh = ∅ := by
  intro op h; simp only [opsD, List.mem_cons, List.mem_nil_iff, or_false] at h
  rcases h with rfl | rfl | rfl | rfl | rfl | rfl <;> rfl

/-- The three arrays of the SparseCore call. -/
def refs3 : Finset (DevRef τ sig) := {Proc.devRef .tc main_arg3, Proc.devRef .tc main_v3, Proc.devRef .tc main_v4}

theorem refs3_sub : refs3 ⊆ uc := by
  intro b hb
  simp only [refs3, Finset.mem_insert, Finset.mem_singleton] at hb
  rcases hb with rfl | rfl | rfl <;> exact Finset.mem_filter.mpr ⟨StableHlo.devRef_mem_tcRefs _, by decide⟩

theorem held3 (d : Dev nD) (W : Valuation τ sig (Elt F)) :
    (StableHlo.held (d.tc : Thread nD τ) refs3 W : sProp 𝕄)
      = iprop(tPts d fullShare (W (Proc.devRef .tc main_arg3)) ∗ xPts d fullShare (W (Proc.devRef .tc main_v3)) ∗ oPts d (W (Proc.devRef .tc main_v4))) := by
  unfold StableHlo.held refs3
  rw [SparseCore.bigSep_insert' (by
      rw [Finset.mem_insert, Finset.mem_singleton]; rintro (h | h)
      · exact StableHlo.devRef_ne_of_ne (show main_arg3 ≠ main_v3 by decide) h
      · exact StableHlo.devRef_ne_of_ne (show main_arg3 ≠ main_v4 by decide) h),
    SparseCore.bigSep_insert' (by
      rw [Finset.mem_singleton]; exact StableHlo.devRef_ne_of_ne (show main_v3 ≠ main_v4 by decide)), bigSep_singleton]

theorem V2_v4 (d : Dev nD) : V2 m d (Proc.devRef .tc main_v4) = gat (V1 m d (Proc.devRef .tc main_arg3)) (V1 m d (Proc.devRef .tc main_v3)) := by
  unfold V2; rw [Function.update_self]
theorem V2_ne (d : Dev nD) {b : DevRef τ sig} (h : b ≠ Proc.devRef .tc main_v4) : V2 m d b = V1 m d b := by
  unfold V2; rw [Function.update_of_ne h]

/-- The unscoped buffers before the call: its arrays and the others; -/
theorem held_V1 (d : Dev nD) : (StableHlo.held (d.tc : Thread nD τ) uc (V1 m d) : sProp 𝕄)
    = iprop((tPts d fullShare (V1 m d (Proc.devRef .tc main_arg3)) ∗ xPts d fullShare (V1 m d (Proc.devRef .tc main_v3)) ∗ oPts d (V1 m d (Proc.devRef .tc main_v4)))
      ∗ StableHlo.held (d.tc : Thread nD τ) (uc \ refs3) (V1 m d)) := by
  rw [StableHlo.held_sub_split _ refs3_sub, held3]
/-- and after it. -/
theorem held_V2 (d : Dev nD) : (StableHlo.held (d.tc : Thread nD τ) uc (V2 m d) : sProp 𝕄)
    = iprop((tPts d fullShare (V1 m d (Proc.devRef .tc main_arg3)) ∗ xPts d fullShare (V1 m d (Proc.devRef .tc main_v3))
          ∗ oPts d (gat (V1 m d (Proc.devRef .tc main_arg3)) (V1 m d (Proc.devRef .tc main_v3))))
      ∗ StableHlo.held (d.tc : Thread nD τ) (uc \ refs3) (V1 m d)) := by
  rw [StableHlo.held_sub_split _ refs3_sub, held3, V2_v4, V2_ne m d (StableHlo.devRef_ne_of_ne (show main_arg3 ≠ main_v4 by decide)),
    V2_ne m d (StableHlo.devRef_ne_of_ne (show main_v3 ≠ main_v4 by decide)),
    StableHlo.held_congr (V := V2 m d) (V' := V1 m d) (S := uc \ refs3) _ fun b hb => V2_ne m d fun h => (Finset.mem_sdiff.mp hb).2 (h ▸ by simp [refs3])]

/-! ## The ghost state at launch -/

/-- The pipelines' rounds. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-- The pipelines' rounds at launch. -/
def uP : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

/-- What the launch deals a core for its two pipelines. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem bigSep_emp' {I : Type} (s : Finset I) : (bigSep s fun _ => iprop(emp)) = (iprop(emp) : sProp 𝕄) := bigSep_emp_const s

variable (tg : S32x64.Idx → Elt F .i32) (fx : S81920000.Idx → Elt F .f32) (fo : S655360.Idx → Elt F .f32)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P tg fx fo).x q thr) := by
  unfold u₀
  iintro Hu
  ihave H := (ownU_pair (initOf (K (F := F)).hsCells (K (F := F)).hsToks) ((uP (F := F), (1 : Counters)))) $$ Hu
  icases H with ⟨HH, HR⟩
  ihave H := (own_pair_emb embR (uP (F := F)) (1 : Counters)) $$ HR
  icases H with ⟨HP, -⟩
  ihave HP := (show (BI.own (((Emb.inl : Emb UP (UP × Counters)).trans embR) (uP (F := F))) : sProp 𝕄)
    ⊢ BI.own (EP (initOf (Pipeline.cells (Pipeline.pin (pcfgs (F := F)) adm) cellOf_inj) (Pipeline.launchToks (Pipeline.pin (pcfgs (F := F)) adm) cellOf_inj))) from .rfl) $$ HP
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg] <;> iassumption
  rw [show (bigSep Finset.univ fun thr : Thread nD τ => bigSep Finset.univ fun q : Fin 1 => (P (F := F) tg fx fo).x q thr) = bigSep Finset.univ fun _ => iprop(emp) from
    bigSep_congr fun _ _ => bigSep_univ_of_subsingleton (0 : Fin 1), bigSep_emp']
  iempintro

/-! ## @main on the TensorCore -/

/-- The SparseCore call's arguments, of the launch memory. -/
abbrev Pm : (K (F := F)).Pay (nD := nD) (Val := Elt F) (Name := ℕ) (U := UU) :=
  P (V1 m 0 (Proc.devRef .tc main_arg3)) (V1 m 0 (Proc.devRef .tc main_v3)) (V1 m 0 (Proc.devRef .tc main_v4))

theorem V4_v9 (d : Dev nD) : V4 m d (Proc.devRef .tc main_v9) = fun _ => attAcc (fun c b => V3 m c (Proc.devRef .tc b)) d 16 := by
  unfold V4; rw [Function.update_self]
theorem V4_ne (d : Dev nD) {b : DevRef τ sig} (h : b ≠ Proc.devRef .tc main_v9) : V4 m d b = V3 m d b := by
  unfold V4; rw [Function.update_of_ne h]
theorem V6_v13 (d : Dev nD) : V6 m d (Proc.devRef .tc main_v13)
    = fun _ => ctcOut (ctcX (fun c b => V5 m c (Proc.devRef .tc b)) d) (ctcT (fun c b => V5 m c (Proc.devRef .tc b)) d)
    (ctcI (fun c b => V5 m c (Proc.devRef .tc b)) d) (ctcL (fun c b => V5 m c (Proc.devRef .tc b)) d) := by
  unfold V6; rw [Function.update_self]
theorem V6_ne (d : Dev nD) {b : DevRef τ sig} (h : b ≠ Proc.devRef .tc main_v13) : V6 m d b = V5 m d b := by
  unfold V6; rw [Function.update_of_ne h]

def RA (b : ℕ) : Pipeline.RegionSeg (pcfgs (F := F)) adm (pdats (fun c b => V3 m c (Proc.devRef .tc b)) b) (none : HIx 1) defs₀ 𝒱₀ (K (F := F)).L (K (F := F)).lev 0 :=
  regA (fun c b => V3 m c (Proc.devRef .tc b)) b (fun c b => V4 m c (Proc.devRef .tc b)) (fun _ => iprop(emp))
    (fun c => by rw [arrA]; exact V4_v9 m c) (fun c r hr => V4_ne m c (StableHlo.devRef_ne_of_ne hr))
def RC (b : ℕ) : Pipeline.RegionSeg (pcfgs (F := F)) adm (pdats (fun c b => V5 m c (Proc.devRef .tc b)) b) (none : HIx 1) defs₀ 𝒱₀ (K (F := F)).L (K (F := F)).lev 1 :=
  regC (fun c b => V5 m c (Proc.devRef .tc b)) b (fun c b => V6 m c (Proc.devRef .tc b)) (fun _ => iprop(emp))
    (fun c => by rw [arrC]; exact V6_v13 m c) (fun c r hr => V6_ne m c (StableHlo.devRef_ne_of_ne hr))

/-- A TensorCore call as a program of its own. -/
def callE (p : Fin 2) : Prog (TpuEff nD τ sig (Elt F) (ΛP (F := F)) .tc) PUnit := .op (.customCall (Pipeline.entry p) ()) .ret
theorem lift_entry (p : Fin 2) :
    (Prog.lift (.customCall (SparseCore.inner (Pipeline.entry p)) ()) : Prog (TpuEff nD τ sig (Elt F) (SparseCore.Sig (ΛP (F := F)) 1) .tc) PUnit)
      = SparseCore.liftProg (callE (F := F) p) := rfl

/-- The cross entropy's call, over the unscoped buffers. -/
theorem wp_A [∀ e, Nonempty (Elt F e)] (b : ℕ) (d : Dev nD) (Q : PUnit → sProp 𝕄) :
    iprop((iprop(boundary (d.tc : Thread nD τ) ∗ StableHlo.held (d.tc : Thread nD τ) uc (V4 m d) ∗ owesUpTo (F := F) b d) -∗ Q ⟨⟩)
        ∗ boundary (d.tc : Thread nD τ) ∗ StableHlo.held (d.tc : Thread nD τ) uc (V3 m d) ∗ owesUpTo (F := F) b d
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ (Prog.lift (.customCall (SparseCore.inner (Pipeline.entry 0)) ())) Q := by
  rw [lift_entry]
  refine BI.Entails.trans ?_ ((K (F := F)).wp_liftProg (D (F := F)) 𝒱 (SparseCore.T d) Set.univ none (callE 0) Q)
  unfold callE
  have h := Pipeline.RegionSeg.wp (pcfgs (F := F)) adm (pdats (fun c b => V3 m c (Proc.devRef .tc b)) b) (none : HIx 1) cellOf_inj EP defs₀ 𝒱₀ (K (F := F)).L (K (F := F)).lev (RA m b) d none
    (fun u hu => nomatch hu) .ret Q
  refine BI.Entails.trans ?_ h
  rw [show (RA m b).pre d = iprop(unscopedBufs d (fun b => V3 m d (Proc.devRef .tc b)) ∗ emp ∗ owesUpTo (F := F) b d) from rfl,
    show (RA m b).post d = iprop(unscopedBufs d (fun b => V4 m d (Proc.devRef .tc b)) ∗ emp ∗ owesUpTo (F := F) b d) from rfl,
    Pipeline.unscopedBufs_held d (V3 m d), Pipeline.unscopedBufs_held d (V4 m d)]
  show (_ : sProp 𝕄) ⊢ _
  iintro ⟨Hk, Hb, Hh, HO, Hl, Hg, Ht⟩
  isplitl [Hk]
  · iintro ⟨Hb, Hh, -, HO⟩
    rw [wp_ret]; imodintro
    iapply Hk
    isplitl [Hb]; · iexact Hb
    isplitl [Hh] <;> iassumption
  isplitl [Hb]; · iexact Hb
  isplitl [Hh HO]
  · isplitl [Hh]; · iexact Hh
    isplitr; · iempintro
    iexact HO
  isplitl [Hl]; · iexact Hl
  isplitl [Hg] <;> iassumption

/-- The last call, over the unscoped buffers. -/
theorem wp_C [∀ e, Nonempty (Elt F e)] (b : ℕ) (d : Dev nD) (Q : PUnit → sProp 𝕄) :
    iprop((iprop(boundary (d.tc : Thread nD τ) ∗ StableHlo.held (d.tc : Thread nD τ) uc (V6 m d) ∗ owesUpTo (F := F) b d) -∗ Q ⟨⟩)
        ∗ boundary (d.tc : Thread nD τ) ∗ StableHlo.held (d.tc : Thread nD τ) uc (V5 m d) ∗ owesUpTo (F := F) b d
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ (Prog.lift (.customCall (SparseCore.inner (Pipeline.entry 1)) ())) Q := by
  rw [lift_entry]
  refine BI.Entails.trans ?_ ((K (F := F)).wp_liftProg (D (F := F)) 𝒱 (SparseCore.T d) Set.univ none (callE 1) Q)
  unfold callE
  have h := Pipeline.RegionSeg.wp (pcfgs (F := F)) adm (pdats (fun c b => V5 m c (Proc.devRef .tc b)) b) (none : HIx 1) cellOf_inj EP defs₀ 𝒱₀ (K (F := F)).L (K (F := F)).lev (RC m b) d none
    (fun u hu => nomatch hu) .ret Q
  refine BI.Entails.trans ?_ h
  rw [show (RC m b).pre d = iprop(unscopedBufs d (fun b => V5 m d (Proc.devRef .tc b)) ∗ emp ∗ owesUpTo (F := F) b d) from rfl,
    show (RC m b).post d = iprop(unscopedBufs d (fun b => V6 m d (Proc.devRef .tc b)) ∗ emp ∗ owesUpTo (F := F) b d) from rfl,
    Pipeline.unscopedBufs_held d (V5 m d), Pipeline.unscopedBufs_held d (V6 m d)]
  show (_ : sProp 𝕄) ⊢ _
  iintro ⟨Hk, Hb, Hh, HO, Hl, Hg, Ht⟩
  isplitl [Hk]
  · iintro ⟨Hb, Hh, -, HO⟩
    rw [wp_ret]; imodintro
    iapply Hk
    isplitl [Hb]; · iexact Hb
    isplitl [Hh] <;> iassumption
  isplitl [Hb]; · iexact Hb
  isplitl [Hh HO]
  · isplitl [Hh]; · iexact Hh
    isplitr; · iempintro
    iexact HO
  isplitl [Hl]; · iexact Hl
  isplitl [Hg] <;> iassumption

/-- What the core ends with: its unscoped buffers at their last contents. -/
abbrev FIN (d : Dev nD) : sProp 𝕄 := StableHlo.held (d.tc : Thread nD τ) uc (V7 m d)

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim _ _
  unfold SparseCore.Cfg.tcRes SparseCore.Cfg.tcEnd G
  rw [main_eq, bigSep_fin2, bigSep_fin2,
    show (unscopedBufs (0 : Dev nD) (fun b => m ((SparseCore.T (0 : Dev nD)).loc b)) : sProp 𝕄) = StableHlo.held ((0 : Dev nD).tc : Thread nD τ) uc (V0 m 0) from
      Pipeline.unscopedBufs_held (0 : Dev nD) (V0 m 0)]
  iintro ⟨#Hctx, Hst, ⟨Hb, Hh, Hts, -⟩, ⟨Hg0, Hg1⟩, Ht0, Ht1⟩
  ihave #Hlev := ((K (F := F)).ctx_levAts κ) $$ Hctx
  iapply (StableHlo.wp_seq 𝒱 none Set.univ (0 : Dev nD) uc _ opsA subA freshA (V0 m 0)) $$ [Hb Hh]
  · isplitl [Hb] <;> iassumption
  iintro ⟨Hb, Hh⟩
  ihave Hh := ((show StableHlo.held ((0 : Dev nD).tc : Thread nD τ) uc (StableHlo.after opsA (V0 m 0)) ⊢ (StableHlo.held ((0 : Dev nD).tc : Thread nD τ) uc (V1 m 0) : sProp 𝕄) from
    .rfl).trans (Entails.of_eq (held_V1 m 0))) $$ Hh
  icases Hh with ⟨Hc, Hh⟩
  rw [wp_bind]
  iapply ((K (F := F)).wp_run (D (F := F)) 𝒱 (EH := EH) (P := Pm m) κ (0 : Dev nD) 0) $$ [Hst Hc Hb Hh Hts Hg0 Hg1 Ht0 Ht1]
  isplitr; · iexact Hctx
  isplitl [Hst]; · iexact Hst
  isplitl [Hc]
  · iapply (Entails.of_eq (st_eq _ _ (0 : Dev nD) _).symm) $$ Hc
  iintro ⟨Hst, Hdn⟩
  ihave Hc := ((show (bigSep Finset.univ fun c : Fin ((K (F := F)).nCore 0) => (Pm m).dn 0 (0 : Dev nD) c)
      ⊢ (bigSep Finset.univ fun c : Fin ((K (F := F)).nCore 0) => stPts (V1 m 0 (Proc.devRef .tc main_arg3)) (V1 m 0 (Proc.devRef .tc main_v3)) (0 : Dev nD)
        (Fin.cast nCore_zero c) (gat (V1 m 0 (Proc.devRef .tc main_arg3)) (V1 m 0 (Proc.devRef .tc main_v3))) : sProp 𝕄) from .rfl).trans
    (Entails.of_eq (st_eq (V1 m 0 (Proc.devRef .tc main_arg3)) (V1 m 0 (Proc.devRef .tc main_v3)) (0 : Dev nD) _))) $$ Hdn
  ihave Hh := (Entails.of_eq (held_V2 m 0).symm) $$ [Hc Hh]
  · isplitl [Hc] <;> iassumption
  iapply (StableHlo.wp_seq 𝒱 none Set.univ (0 : Dev nD) uc _ opsB subB freshB (V2 m 0)) $$ [Hb Hh]
  · isplitl [Hb] <;> iassumption
  iintro ⟨Hb, Hh⟩
  ihave Hst := (Entails.of_eq (show (K (F := F)).tcSt EH (0 : Dev nD) ((0 : Fin 1).val + 1) = iprop(owesUpTo (F := F) _ (0 : Dev nD) ∗ _) by
      unfold SparseCore.Cfg.tcSt owesUpTo
      rw [(K (F := F)).Otc_end (0 : Dev nD) (show 1 ≤ ((0 : Fin 1).val + 1) from le_rfl)])) $$ Hst
  icases Hst with ⟨HO, Hrest⟩
  rw [wp_bind]
  iapply (wp_A m _ (0 : Dev nD) _)
  isplitr [Hb Hh HO Hg0 Ht0]
  swap
  · isplitl [Hb]; · iexact Hb
    isplitl [Hh]; · iexact Hh
    isplitl [HO]; · iexact HO
    isplitr; · iexact Hlev
    isplitl [Hg0] <;> iassumption
  iintro ⟨Hb, Hh, HO⟩
  iapply (StableHlo.wp_seq 𝒱 none Set.univ (0 : Dev nD) uc _ opsC subC freshC (V4 m 0)) $$ [Hb Hh]
  · isplitl [Hb] <;> iassumption
  iintro ⟨Hb, Hh⟩
  rw [wp_bind]
  iapply (wp_C m _ (0 : Dev nD) _)
  isplitr [Hb Hh HO Hg1 Ht1]
  swap
  · isplitl [Hb]; · iexact Hb
    isplitl [Hh]; · iexact Hh
    isplitl [HO]; · iexact HO
    isplitr; · iexact Hlev
    isplitl [Hg1] <;> iassumption
  iintro ⟨Hb, Hh, HO⟩
  iapply (StableHlo.wp_seq 𝒱 none Set.univ (0 : Dev nD) uc _ opsD subD freshD (V6 m 0)) $$ [Hb Hh]
  · isplitl [Hb] <;> iassumption
  iintro ⟨Hb, Hh⟩
  rw [wp_pure]
  imodintro
  isplitl [HO Hrest]
  · unfold SparseCore.Cfg.tcSt
    rw [(K (F := F)).Otc_end (0 : Dev nD) (le_refl 1)]
    isplitl [HO]; · unfold owesUpTo; iexact HO
    iexact Hrest
  isplitl [Hh]; · iexact Hh
  isplitl [Hb] <;> iassumption

/-! ## The program's run -/

def fq (d : Dev nD) (s' : Phys nD τ sig (Elt F)) : Prop := ∀ b ∈ uc, s'.mem.mem (d, b) = V7 m d b

theorem hfin (d : Dev nD) (s' : Phys nD τ sig (Elt F)) : iprop(FIN m d ∗ SI s') ⊢ (⌜fq m d s'⌝ : sProp 𝕄) := by
  have h := pointsTo_read_all (Ix := HIx 1) (Name := ℕ) (U := UU) (Lvl := ℕ) uc (fun b : DevRef τ sig => ((d, b) : Loc nD τ sig)) (V7 m d) s'
  unfold FIN StableHlo.held
  exact h.trans sep_elim_left

def QC : PUnit × MemSt nD τ sig (Elt F) → Prop := fun r => (∀ d : Dev nD, ∀ b ∈ uc, r.2.mem (d, b) = V7 m d b) ∧ r.2.sem = fun _ => 0

/-- The references the program writes. -/
abbrev written : List (Ref sig .tc) := [main_v0, main_v1, main_v2, main_v3, main_v4, main_v5, main_v6, main_v7, main_v8, main_v9, main_v10, main_v11, main_v12,
  main_v13, main_v14, main_cst, main_v15, main_cst_0, main_v16, main_v17]

theorem opsA_writes : (opsA : List (HloOp τ sig (Elt F))).Forall fun op => op.writes ⊆ (written.map (Proc.devRef (τ := τ) .tc)).toFinset := by
  simp [opsA, written]
theorem opsB_writes : (opsB : List (HloOp τ sig (Elt F))).Forall fun op => op.writes ⊆ (written.map (Proc.devRef (τ := τ) .tc)).toFinset := by
  simp [opsB, written]
theorem opsC_writes : (opsC : List (HloOp τ sig (Elt F))).Forall fun op => op.writes ⊆ (written.map (Proc.devRef (τ := τ) .tc)).toFinset := by
  simp [opsC, written]
theorem opsD_writes : (opsD : List (HloOp τ sig (Elt F))).Forall fun op => op.writes ⊆ (written.map (Proc.devRef (τ := τ) .tc)).toFinset := by
  simp [opsD, written]

variable {r : Ref sig .tc}
theorem V1_of (d : Dev nD) (hr : r ∉ written) : V1 m d (Proc.devRef .tc r) = m (d, Proc.devRef .tc r) :=
  StableHlo.after_of_writes_sub opsA _ opsA_writes hr
theorem V3_of (d : Dev nD) (hr : r ∉ written) : V3 m d (Proc.devRef .tc r) = m (d, Proc.devRef .tc r) :=
  (StableHlo.after_of_writes_sub opsB _ opsB_writes hr).trans <|
    (V2_ne m d (StableHlo.devRef_ne_of_ne (x := r) fun h => hr (h ▸ by simp [written]))).trans (V1_of m d hr)
theorem V5_of (d : Dev nD) (hr : r ∉ written) : V5 m d (Proc.devRef .tc r) = m (d, Proc.devRef .tc r) :=
  (StableHlo.after_of_writes_sub opsC _ opsC_writes hr).trans <|
    (V4_ne m d (StableHlo.devRef_ne_of_ne (x := r) fun h => hr (h ▸ by simp [written]))).trans (V3_of m d hr)
/-- A buffer the program writes nowhere ends as launched. -/
theorem V7_of (d : Dev nD) (hr : r ∉ written) : V7 m d (Proc.devRef .tc r) = m (d, Proc.devRef .tc r) :=
  (StableHlo.after_of_writes_sub opsD _ opsD_writes hr).trans <|
    (V6_ne m d (StableHlo.devRef_ne_of_ne (x := r) fun h => hr (h ▸ by simp [written]))).trans (V5_of m d hr)

theorem mem_uc {r : Ref sig .tc} (h : r.isScoped = false) : Proc.devRef .tc r ∈ uc :=
  Finset.mem_filter.mpr ⟨StableHlo.devRef_mem_tcRefs _, fun h' => Bool.false_ne_true (h.symm.trans h')⟩

/-- A final state's argument arrays are the launch's. -/
theorem QC_args {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h.1 c _ (mem_uc (r := main_arg0) rfl)).trans (V7_of m c (by decide)),
   (h.1 c _ (mem_uc (r := main_arg1) rfl)).trans (V7_of m c (by decide)),
   (h.1 c _ (mem_uc (r := main_arg2) rfl)).trans (V7_of m c (by decide)),
   (h.1 c _ (mem_uc (r := main_arg3) rfl)).trans (V7_of m c (by decide)),
   (h.1 c _ (mem_uc (r := main_arg4) rfl)).trans (V7_of m c (by decide)),
   (h.1 c _ (mem_uc (r := main_arg5) rfl)).trans (V7_of m c (by decide))⟩

/-- Every run of the program: it ends, each of the TensorCore's unscoped buffers at its last contents, every counter at zero. -/
theorem run_main [∀ e, Nonempty (Elt F e)] (htg : ∀ x : S32x64.Idx, (m ((0 : Dev nD), Proc.devRef .tc main_arg3) x : BitVec 32).toNat < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ facts (by rw [V1_of m 0 (r := main_arg3) (by decide)]; exact htg))
    (fun q _ => match q with | 0 => SparseCore.Cfg.VecSplit.of_plain (vecSplit _ _ _))
    m ρ main G (FIN m) (u₀ (F := F)) (sep_elim_left.trans (hu₀ _ _ _)) (hmain m ρ) (fq m) (hfin m) (QC m) (fun _ h hz => ⟨h, hz⟩)

end Cert.Proof.OfKernelIdeal

end
-- ==== Proof.Frames.lean ====
/-
  The frames and the named constants: what each precondition gives of the launch memory, and the runs read at the
  argument arrays and the counters.
-/
module

public import proofs.«01_k».proof.Defs
public import proofs.«01_k».proof.Proof.RunKernel
public import proofs.«01_k».proof.Proof.RunKernelIdeal
public import proofs.«01_k».proof.Proof.Gen.ReferenceIdeal.Run

@[expose] public section

noncomputable section

namespace Cert.Proof

open Idealize.ShloMosaic Idealize.SL.Sem

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word from 0 up and below 9999, as the comparison of signed words has it. -/
theorem lt_of_cmp {v : BitVec 32} (e : IntOp.andi (IntOp.cmpi .sge v 0#32) (IntOp.cmpi .slt v 9999#32) = 1#1) : v.toNat < 9999 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A word from 0 up and below 10000. -/
theorem lt_of_cmp' {v : BitVec 32} (e : IntOp.andi (IntOp.cmpi .sge v 0#32) (IntOp.cmpi .slt v 10000#32) = 1#1) : v.toNat < 10000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A word from 1 up to 64. -/
theorem len_of_cmp {v : BitVec 32} (e : IntOp.andi (IntOp.cmpi .sge v 1#32) (IntOp.cmpi .sle v 64#32) = 1#1) : 1 ≤ v.toNat ∧ v.toNat ≤ 64 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance preT : Cert.Pre_targets_in_range.Facts := ⟨by decide⟩

theorem targets_of_pre (m : (ℓ : Loc Cert.Kernel.nD Cert.Kernel.τ Cert.Kernel.sig) → Buf (Elt Bits) ℓ) (h : Cert.Pre_Kernel m)
    (x : Cert.Kernel.S32x64.Idx) : (m ((0 : Dev Cert.Kernel.nD), Proc.devRef .tc Cert.Kernel.main_arg3) x : BitVec 32).toNat < 10000 := by
  have e := congrFun (h 0) x
  simp only [Cert.Pre_targets_in_range.fn, andi, cmpi, broadcastInDim, constantI] at e
  have := lt_of_cmp e
  exact this.trans (by decide)

theorem targets_of_preI (m : (ℓ : Loc Cert.KernelIdeal.nD Cert.KernelIdeal.τ Cert.KernelIdeal.sig) → Buf (Elt Ideal) ℓ) (h : Cert.Pre_KernelIdeal m)
    (x : Cert.KernelIdeal.S32x64.Idx) : (m ((0 : Dev Cert.KernelIdeal.nD), Proc.devRef .tc Cert.KernelIdeal.main_arg3) x : BitVec 32).toNat < 10000 := by
  have e := congrFun (h 0) x
  simp only [Cert.Pre_targets_in_range.fn, andi, cmpi, broadcastInDim, constantI] at e
  have := lt_of_cmp e
  exact this.trans (by decide)

/-- `Cert.quiescent_Kernel` (Defs.lean). -/
theorem frame_k : Cert.quiescent_Kernel := fun m ρ hpre =>
  (θ_run Cert.Kernel.defs _ _).mono (fun _ h => ⟨fun c => OfKernel.QC_args m h c, h.2⟩) (OfKernel.run_main (F := Bits) m ρ (targets_of_pre m hpre))

/-- `Cert.quiescent_KernelIdeal` (Defs.lean). -/
theorem frame_i : Cert.quiescent_KernelIdeal := fun m ρ hpre =>
  (θ_run Cert.KernelIdeal.defs _ _).mono (fun _ h => ⟨fun c => OfKernelIdeal.QC_args m h c, h.2⟩)
    (OfKernelIdeal.run_main (F := Ideal) m ρ (targets_of_preI m hpre))

/-- `Cert.quiescent_ReferenceIdeal` (Defs.lean): it declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.preserves_Kernel_KernelIdeal` (Defs.lean): the table gives each name its value. -/
theorem preserves : Cert.preserves_Kernel_KernelIdeal :=
  ⟨IdealRules.named_const.statement _ _ _ _ _ rfl, IdealRules.named_const.statement _ _ _ _ _ rfl,
   IdealRules.named_const.statement _ _ _ _ _ rfl, IdealRules.named_const.statement _ _ _ _ _ rfl⟩

end Cert.Proof

end
-- ==== Proof.Spec.lean ====
/-
  The forward recursion of the alignment loss on one batch row, over the extended reals: the scores of the blanks and
  of the labels, and the loss read off them.
-/
module

public import Idealize.ShloMosaic.Lib.Pointwise

@[expose] public section

noncomputable section

namespace Cert.Proof

open Idealize.ShloMosaic

/-- `log (exp x + exp y)` as both programs write it. -/
def lae (x y : EReal) : EReal := max x y + Ideal.log1p (Ideal.exp (-(max (x - y) (-(x - y)))))

theorem log1p_exp_bot : Ideal.log1p (Ideal.exp ⊥) = 0 := by
  have h : Ideal.exp ⊥ = 0 := rfl
  rw [h, Ideal.log1p, add_zero]
  show (if (1 : ℝ) ≤ 0 then (⊥ : EReal) else ((Real.log 1 : ℝ) : EReal)) = 0
  rw [if_neg (by norm_num), Real.log_one, EReal.coe_zero]

theorem lae_bot_right (x : EReal) : lae x ⊥ = x := by
  have h : max (x - ⊥) (-(x - ⊥)) = ⊤ := by
    induction x with
    | bot => rfl
    | top => rfl
    | coe r => rfl
  rw [lae, h, EReal.neg_top, log1p_exp_bot, add_zero, max_eq_left bot_le]

theorem lae_comm (x y : EReal) : lae x y = lae y x := by
  have h : max (x - y) (-(x - y)) = max (y - x) (-(y - x)) := by
    induction x with
    | bot =>
      induction y with
      | bot => rfl
      | top => rfl
      | coe s => rfl
    | top =>
      induction y with
      | bot => rfl
      | top => rfl
      | coe s => rfl
    | coe r =>
      induction y with
      | bot => rfl
      | top => rfl
      | coe s =>
        rw [← EReal.coe_sub, ← EReal.coe_sub, ← EReal.coe_neg, ← EReal.coe_neg, neg_sub, neg_sub, max_comm]
  rw [lae, lae, h, max_comm]

theorem lae_bot_left (x : EReal) : lae ⊥ x = x := by rw [lae_comm, lae_bot_right]

/-- The score of the label before label `i`, if there is one. -/
def before (o : ℕ → EReal) (i : ℕ) : EReal := if i = 0 then ⊥ else o (i - 1)

/-- The scores of the blanks (first) and of the labels (second) after frame `k`: `lb t` is frame `t`'s score of the
    blank, `lt t i` its score of label `i`, `sk i` says that label `i` may be entered straight from label `i - 1`, and
    `on t` that frame `t` is inside the input. -/
def scores (lb : ℕ → EReal) (lt : ℕ → ℕ → EReal) (sk on : ℕ → Bool) : ℕ → (ℕ → EReal) × (ℕ → EReal)
  | 0 => (fun i => if i = 0 then lb 0 else ⊥, fun i => if i = 0 then lt 0 0 else ⊥)
  | k + 1 =>
    (fun i => if on (k + 1) then lae ((scores lb lt sk on k).1 i) (before (scores lb lt sk on k).2 i) + lb (k + 1)
      else (scores lb lt sk on k).1 i,
     fun i => if on (k + 1) then
        lae (lae ((scores lb lt sk on k).2 i) ((scores lb lt sk on k).1 i))
          (if sk i then before (scores lb lt sk on k).2 i else ⊥) + lt (k + 1) i
      else (scores lb lt sk on k).2 i)

theorem scores_succ (lb : ℕ → EReal) (lt : ℕ → ℕ → EReal) (sk on : ℕ → Bool) (k : ℕ) :
    scores lb lt sk on (k + 1) =
    (fun i => if on (k + 1) then lae ((scores lb lt sk on k).1 i) (before (scores lb lt sk on k).2 i) + lb (k + 1)
      else (scores lb lt sk on k).1 i,
     fun i => if on (k + 1) then
        lae (lae ((scores lb lt sk on k).2 i) ((scores lb lt sk on k).1 i))
          (if sk i then before (scores lb lt sk on k).2 i else ⊥) + lt (k + 1) i
      else (scores lb lt sk on k).2 i) := rfl

/-! The four ingredients, from the arguments, for batch row `b`. -/

def blankScore (enc : (⟨3, ![256, 32, 10000]⟩ : Shape).Idx → EReal) (b : Fin 32) (t : ℕ) : EReal :=
  enc (ix3 (Fin.ofNat 256 t) b 9999)
def labelScore (enc : (⟨3, ![256, 32, 10000]⟩ : Shape).Idx → EReal) (tgt : (⟨2, ![32, 64]⟩ : Shape).Idx → BitVec 32)
    (b : Fin 32) (t i : ℕ) : EReal :=
  enc (ix3 (Fin.ofNat 256 t) b (Fin.ofNat 10000 (tgt (ix2 b (Fin.ofNat 64 i))).toNat))
def mayEnter (tgt : (⟨2, ![32, 64]⟩ : Shape).Idx → BitVec 32) (b : Fin 32) (i : ℕ) : Bool :=
  decide (i ≠ 0) && decide (tgt (ix2 b (Fin.ofNat 64 i)) ≠ tgt (ix2 b (Fin.ofNat 64 (i - 1))))
def inside (il : (⟨1, ![32]⟩ : Shape).Idx → BitVec 32) (b : Fin 32) (t : ℕ) : Bool :=
  (BitVec.ofNat 32 t).slt (il (ix1 b))

/-- Row `b`'s scores after frame `k`. -/
def rowScores (enc : (⟨3, ![256, 32, 10000]⟩ : Shape).Idx → EReal) (tgt : (⟨2, ![32, 64]⟩ : Shape).Idx → BitVec 32)
    (il : (⟨1, ![32]⟩ : Shape).Idx → BitVec 32) (b : Fin 32) : ℕ → (ℕ → EReal) × (ℕ → EReal) :=
  scores (blankScore enc b) (labelScore enc tgt b) (mayEnter tgt b) (inside il b)

/-- Row `b`'s alignment loss, its target being `n` labels long. -/
def rowLoss (enc : (⟨3, ![256, 32, 10000]⟩ : Shape).Idx → EReal) (tgt : (⟨2, ![32, 64]⟩ : Shape).Idx → BitVec 32)
    (il tl : (⟨1, ![32]⟩ : Shape).Idx → BitVec 32) (b : Fin 32) : EReal :=
  -lae ((rowScores enc tgt il b 255).2 ((tl (ix1 b)).toNat - 1)) ((rowScores enc tgt il b 255).1 (tl (ix1 b)).toNat)

theorem ofNat_val {n : ℕ} [NeZero n] (i : Fin n) : Fin.ofNat n i.val = i := Fin.ext (Nat.mod_eq_of_lt i.isLt)

end Cert.Proof

end
-- ==== Proof.CtcValue.lean ====
/-
  What the alignment loss's call computes, read at an entry: the loop carries the recursion of Spec.lean, and the call
  leaves the sum of the rows' losses.
-/
module

public import proofs.«01_k».proof.Proof.CtcKernelIdeal
public import proofs.«01_k».proof.Proof.Spec
public import Idealize.ShloMosaic.Lib.WordCmp

@[expose] public section

set_option maxRecDepth 16384

noncomputable section

namespace Cert.Proof

open Idealize.ShloMosaic Cert.KernelIdeal Cert.KernelIdeal.Gen
open Cert.Proof.OfKernelIdeal

theorem mask_eq : (Named.named κ "mask" 0xF149F2CA#32 : Ideal .f32) = ⊥ := rfl

theorem select_cmpi_slt {α : Type} (x y : BitVec 32) (a b : α) :
    Scalar.select (IntOp.cmpi .slt x y) a b = if x.slt y then a else b := WordCmp.select_ofBool _ _ _

theorem select_cmpi_eq {α : Type} (x y : BitVec 32) (a b : α) :
    Scalar.select (IntOp.cmpi .eq x y) a b = if x = y then a else b := by
  have h : IntOp.cmpi .eq x y = BitVec.ofBool (x == y) := rfl
  rw [h, WordCmp.select_ofBool]
  simp only [beq_iff_eq]

theorem select_cmpi_ne {α : Type} (x y : BitVec 32) (a b : α) :
    Scalar.select (IntOp.cmpi .ne x y) a b = if x = y then b else a := by
  have h : IntOp.cmpi .ne x y = BitVec.ofBool (x != y) := rfl
  rw [h, WordCmp.select_ofBool]
  by_cases e : x = y
  · subst e; simp
  · simp [e]

theorem lae_def (x y : EReal) :
    max x y + Ideal.log1p (Ideal.exp (-(FloatOps.absf (F := Ideal) (φ := .f32) (x - y)))) = lae x y := rfl

theorem trips_eq : k2_t1_loop.trips = 255 := by decide

theorem iv_eq (k : Fin k2_t1_loop.trips) : Scf.iv 1#32 1#32 k.val = BitVec.ofNat 32 (k.val + 1) := by
  have : k.val < 255 := lt_of_lt_of_eq k.isLt trips_eq
  refine BitVec.eq_of_toNat_eq ?_
  simp [Scf.iv]
  omega

/-- The entry before, as the table shifted by one holds it. -/
theorem shifted (o : FVec Ideal S32x64 .f32) (b : Fin 32) (i : ℕ) (hi : i < 65) :
    (if h : i < 1 then (⊥ : EReal) else o (ix2 b ⟨i - 1, by omega⟩)) = before (fun j => o (ix2 b (Fin.ofNat 64 j))) i := by
  unfold before
  by_cases h : i = 0
  · rw [dif_pos (by omega), if_pos h]
  · rw [dif_neg (by omega), if_neg h]
    exact congrArg (fun j => o (ix2 b j)) (Fin.ext (Nat.mod_eq_of_lt (by omega)).symm)

section step
variable (v6 : IVec S32x1 32) (v4 : IVec S32x64 1) (k : Fin k2_t1_loop.trips) (a : FVec Ideal S32x65 .f32)
  (o : FVec Ideal S32x64 .f32) (f : Vec Ideal S1x32x80 .f32) (b : Fin 32)

theorem even_step (i : Fin 65) : k2_pay6 (F := Ideal) v6 1#32 1#32 k a o f (ix2 b i)
    = if (BitVec.ofNat 32 (k.val + 1)).slt (v6 (ix2 b 0)) then
        lae (a (ix2 b i)) (before (fun j => o (ix2 b (Fin.ofNat 64 j))) i) + f (ix3 0 b 64)
      else a (ix2 b i) := by
  rw [← shifted o b i.val i.isLt]
  pointwise [k2_pay6, k2_pay5, k2_pay3, k2_pay2, mask_eq]
  simp only [ne_eq, not_true_eq_false, if_false, zero_sub]
  rw [iv_eq, select_cmpi_slt]
  rfl

theorem odd_step (i : Fin 64) : k2_pay4 (F := Ideal) v4 a o f (ix2 b i)
    = lae (lae (o (ix2 b i)) (a (ix2 b (Fin.ofNat 65 i.val))))
        (Scalar.select (v4 (ix2 b i)) (before (fun j => o (ix2 b (Fin.ofNat 64 j))) i) ⊥) + f (ix3 0 b ⟨i.val, by omega⟩) := by
  have e : Fin.ofNat 65 i.val = ⟨i.val, by omega⟩ := Fin.ext (Nat.mod_eq_of_lt (by omega))
  rw [← shifted o b i.val (by omega), e]
  pointwise [k2_pay4, k2_pay3, k2_pay2, mask_eq]
  simp only [ne_eq, not_true_eq_false, if_false, zero_sub]
  rfl

theorem keep_step (v107 : FVec Ideal S32x64 .f32) (i : Fin 64) :
    k2_pay13 (F := Ideal) o v107 (k2_pay5 v6 1#32 1#32 k) (ix2 b i)
    = if (BitVec.ofNat 32 (k.val + 1)).slt (v6 (ix2 b 0)) then v107 (ix2 b i) else o (ix2 b i) := by
  pointwise [k2_pay13, k2_pay5]
  rw [iv_eq, select_cmpi_slt]

theorem skip_step {α : Type} (tgt : Vec Ideal S32x64 .i32) (i : Fin 64) (x y : α) :
    Scalar.select (k2_pay7 (F := Ideal) tgt (ix2 b i)) x y = if mayEnter tgt b i.val then x else y := by
  pointwise [k2_pay7]
  rw [select_cmpi_ne]
  unfold mayEnter
  by_cases h : i.val = 0
  · simp [h]
  · have e : (⟨i.val - 1, by omega⟩ : Fin 64) = Fin.ofNat 64 (i.val - 1) := Fin.ext (Nat.mod_eq_of_lt (by omega)).symm
    rw [dif_neg (by omega), e, ofNat_val]
    by_cases h' : tgt (ix2 b i) = tgt (ix2 b (Fin.ofNat 64 (i.val - 1)))
    · rw [if_pos h']; simp [h']
    · rw [if_neg h']; simp [-Fin.ofNat_eq_cast, h, h']

theorem even_zero (i : Fin 65) : k2_pay11 (F := Ideal) f (ix2 b i) = if i.val = 0 then f (ix3 0 b 64) else ⊥ := by
  pointwise [k2_pay11, k2_pay10, mask_eq]
  rw [select_cmpi_eq]
  refine if_congr ⟨fun h => ?_, fun h => by rw [h]⟩ rfl rfl
  have := congrArg BitVec.toNat h
  simp at this; omega

theorem odd_zero (i : Fin 64) : k2_pay12 (F := Ideal) f (ix2 b i) = if i.val = 0 then f (ix3 0 b 0) else ⊥ := by
  pointwise [k2_pay12, k2_pay10, mask_eq]
  rw [select_cmpi_eq]
  by_cases h : i.val = 0
  · rw [if_pos h, if_pos (by rw [h])]
    exact congrArg (fun j => f (ix3 0 b j)) (Fin.ext h)
  · rw [if_neg h, if_neg]
    intro h'
    have := congrArg BitVec.toNat h'
    simp at this; omega

end step

section loop
variable (X : S256x32x80.Idx → Elt Ideal .f32) (tgt : Vec Ideal S32x64 .i32) (v5 v7 : Vec Ideal S32x1 .i32)
  (enc : (⟨3, ![256, 32, 10000]⟩ : Shape).Idx → EReal) (il tl : (⟨1, ![32]⟩ : Shape).Idx → BitVec 32)

theorem frameAt_apply (k : Fin k2_t1_loop.trips) (b : Fin 32) (j : Fin 80) :
    frameAt X k (ix3 0 b j) = X (ix3 (Fin.ofNat 256 (k.val + 1)) b j) := by
  have hk : k.val < 255 := lt_of_lt_of_eq k.isLt trips_eq
  refine congrArg X ?_
  funext a
  refine Fin.ext ?_
  have h : (Scf.iv 1#32 1#32 k.val).toNat = k.val + 1 := by rw [iv_eq]; simp; omega
  fin_cases a
  · show (Scalar.indexCast (Scf.iv 1#32 1#32 k.val)).toNat + 1 * 0 = (k.val + 1) % 256
    have h2 : (Scalar.indexCast (Scf.iv 1#32 1#32 k.val)).toNat = k.val + 1 := by rw [← h]; rfl
    rw [h2]; omega
  · show 0 + 1 * b.val = b.val; omega
  · show 0 + 1 * j.val = j.val; omega

theorem frameZero_apply (b : Fin 32) (j : Fin 80) : frameZero X (ix3 0 b j) = X (ix3 0 b j) := by
  refine congrArg X ?_
  funext a
  refine Fin.ext ?_
  fin_cases a
  · rfl
  · show 0 + 1 * b.val = b.val; omega
  · show 0 + 1 * j.val = j.val; omega

/-- Before trip `k` the carried tables hold the recursion's scores after frame `k`. -/
theorem ctcSt_row (b : Fin 32) (hB : ∀ t : Fin 256, X (ix3 t b 64) = blankScore enc b t.val)
    (hL : ∀ (t : Fin 256) (i : Fin 64), X (ix3 t b ⟨i.val, by omega⟩) = labelScore enc tgt b t.val i.val)
    (hI : v5 (ix2 b 0) = il (ix1 b)) (k : ℕ) (hk : k ≤ 255) :
    (∀ i : Fin 65, (ctcSt X tgt v5 k).1 (ix2 b i) = (rowScores enc tgt il b k).1 i.val) ∧
    (∀ i : Fin 64, (ctcSt X tgt v5 k).2 (ix2 b i) = (rowScores enc tgt il b k).2 i.val) := by
  induction k with
  | zero =>
    refine ⟨fun i => ?_, fun i => ?_⟩
    · show k2_pay11 (F := Ideal) (frameZero X) (ix2 b i) = if i.val = 0 then blankScore enc b 0 else ⊥
      rw [even_zero, frameZero_apply, hB 0]; rfl
    · show k2_pay12 (F := Ideal) (frameZero X) (ix2 b i) = if i.val = 0 then labelScore enc tgt b 0 0 else ⊥
      have h0 := hL 0 0
      rw [odd_zero, frameZero_apply]
      refine if_congr Iff.rfl ?_ rfl
      exact h0
  | succ k ih =>
    have hkt : k < k2_t1_loop.trips := by rw [trips_eq]; omega
    obtain ⟨ihe, iho⟩ := ih (by omega)
    have e1 : ctcSt X tgt v5 (k + 1) = ctcStep X tgt v5 ⟨k, hkt⟩ (ctcSt X tgt v5 k) := ctcSt_succ X tgt v5 ⟨k, hkt⟩
    have hbef : ∀ i : ℕ, i < 65 → before (fun j => (ctcSt X tgt v5 k).2 (ix2 b (Fin.ofNat 64 j))) i
        = before (rowScores enc tgt il b k).2 i := fun i hi => by
      unfold before
      refine if_congr Iff.rfl rfl ?_
      by_cases h : i = 0
      · subst h; exact iho 0
      · refine (iho _).trans ?_
        exact congrArg _ (Nat.mod_eq_of_lt (by omega))
    have hv : (k2_pay8 (F := Ideal) v5) (ix2 b 0) = il (ix1 b) := by pointwise [k2_pay8]; exact hI
    have ht : ((Fin.ofNat 256 (k + 1) : Fin 256)).val = k + 1 := Nat.mod_eq_of_lt (by omega)
    rw [e1]
    refine ⟨fun i => ?_, fun i => ?_⟩
    · show k2_pay6 (F := Ideal) (k2_pay8 v5) 1#32 1#32 ⟨k, hkt⟩ (ctcSt X tgt v5 k).1 (ctcSt X tgt v5 k).2 (frameAt X ⟨k, hkt⟩) (ix2 b i) = _
      rw [even_step, frameAt_apply, hB, hbef i.val i.isLt, ihe i, hv, ht]
      rfl
    · show k2_pay13 (F := Ideal) (ctcSt X tgt v5 k).2 (k2_pay4 (k2_pay7 tgt) (ctcSt X tgt v5 k).1 (ctcSt X tgt v5 k).2 (frameAt X ⟨k, hkt⟩))
        (k2_pay5 (k2_pay8 v5) 1#32 1#32 ⟨k, hkt⟩) (ix2 b i) = _
      rw [keep_step, odd_step, frameAt_apply, hL, hbef i.val (by omega), iho i, ihe, skip_step, hv, ht]
      have hm : ((Fin.ofNat 65 i.val : Fin 65)).val = i.val := Nat.mod_eq_of_lt (by omega)
      rw [hm]
      rfl

/-- A masked sum over the lanes is the lane the word names. -/
theorem pick {n : ℕ} (hn : n ≤ 2 ^ 32) (w : BitVec 32) (hw : w.toNat < n) (f : Fin n → EReal) :
    (∑ j : Fin n, Scalar.select (IntOp.cmpi .eq (BitVec.ofNat 32 j.val) w) (f j) 0) = f ⟨w.toNat, hw⟩ := by
  rw [Finset.sum_eq_single ⟨w.toNat, hw⟩]
  · rw [select_cmpi_eq, if_pos]; simp
  · intro j _ hj
    rw [select_cmpi_eq, if_neg]
    intro h
    refine hj (Fin.ext ?_)
    have := congrArg BitVec.toNat h
    rw [BitVec.toNat_ofNat, Nat.mod_eq_of_lt (by omega)] at this
    exact this
  · intro h; exact absurd (Finset.mem_univ _) h

theorem ctcOut_eq (hB : ∀ (b : Fin 32) (t : Fin 256), X (ix3 t b 64) = blankScore enc b t.val)
    (hL : ∀ (b : Fin 32) (t : Fin 256) (i : Fin 64), X (ix3 t b ⟨i.val, by omega⟩) = labelScore enc tgt b t.val i.val)
    (hI : ∀ b, v5 (ix2 b 0) = il (ix1 b)) (hT : ∀ b, v7 (ix2 b 0) = tl (ix1 b))
    (hlen : ∀ b : Fin 32, 1 ≤ (tl (ix1 b)).toNat ∧ (tl (ix1 b)).toNat ≤ 64) :
    ctcOut (F := Ideal) X tgt v5 v7 = ∑ b : Fin 32, rowLoss enc tgt il tl b := by
  unfold ctcOut
  rw [trips_eq]
  generalize hst : ctcSt X tgt v5 255 = st
  pointwise [k2_pay1, k2_pay14, k2_pay15, k2_pay9]
  simp only [ne_eq, not_true_eq_false, if_false, zero_sub, Finset.univ_unique, Finset.sum_singleton, lae_def]
  refine Finset.sum_congr rfl fun b _ => ?_
  obtain ⟨l1, l2⟩ := hlen b
  obtain ⟨he, ho⟩ := ctcSt_row X tgt v5 enc il b (hB b) (hL b) (hI b) 255 le_rfl
  have hs : (IntOp.subi (tl (ix1 b)) 1#32).toNat = (tl (ix1 b)).toNat - 1 := by
    show (tl (ix1 b) - 1#32).toNat = _
    rw [BitVec.toNat_sub]
    have := (tl (ix1 b)).isLt
    simp; omega
  rw [hT b, pick (by omega) _ (by omega) (fun j => st.1 (ix2 b j)), pick (by omega) _ (by omega) (fun j => st.2 (ix2 b j)), ← hst]
  rw [he, ho, lae_comm]
  simp only [hs]
  rfl

end loop

end Cert.Proof

end
-- ==== Proof.AttValue.lean ====
/-
  What the smoothed loss's call computes, read at an entry: it leaves the sum over all rows of the row's loss.
-/
module

public import proofs.«01_k».proof.Proof.AttKernelIdeal
public import proofs.«01_k».proof.Proof.CtcValue

@[expose] public section

set_option maxRecDepth 16384

noncomputable section

namespace Cert.Proof

open Idealize.ShloMosaic Cert.KernelIdeal Cert.KernelIdeal.Gen
open Cert.Proof.OfKernelIdeal

/-- The three constants' real numbers. -/
abbrev confR : ℝ := 9 / 10
abbrev smoothR : ℝ := 1 / 99980
abbrev entropyR : ℝ := 1 / 10 * Real.log (387420489 / 99980000000000)

theorem conf_eq : (Named.named κ "conf" 0x3F666666#32 : Ideal .f32) = ((confR : ℝ) : EReal) := rfl
theorem smooth_eq : (Named.named κ "smooth" 0x3727CE44#32 : Ideal .f32) = ((smoothR : ℝ) : EReal) := rfl
theorem entropy_eq : (Named.named κ "entropy" 0xBF9F801B#32 : Ideal .f32) = ((entropyR : ℝ) : EReal) := rfl

/-- One row's loss as the kernel writes it: `g` the row's label, `xs` its scores. -/
def shortRow (g : BitVec 32) (xs : Fin 10000 → EReal) : EReal :=
  if g = 0#32 then 0 else
    (entropyR : EReal) - (confR : EReal) * (∑ v : Fin 10000, if BitVec.ofNat 32 v.val = g then xs v else 0)
      - (smoothR : EReal) * ((∑ v : Fin 10000, xs v) - xs 0 - ∑ v : Fin 10000, if BitVec.ofNat 32 v.val = g then xs v else 0)

theorem att_step (x : Vec Ideal S128x10000 .f32) (l : Vec Ideal S1x128x1 .i32) (acc : Elt Ideal .f32) :
    k1_pay1 (F := Ideal) x l acc = acc + ∑ r : Fin 128, shortRow (l (ix3 0 r 0)) (fun v => x (ix2 r v)) := by
  pointwise [k1_pay1, conf_eq, smooth_eq, entropy_eq]
  simp only [Finset.univ_unique, Finset.sum_singleton, select_cmpi_eq]
  rfl
end Cert.Proof

end
-- ==== Proof.KernelBlocks.lean ====
/-
  What the two TensorCore calls read, entry by entry: the cross entropy's call reads 128 rows at a time, the alignment loss's
  whole arrays; and the cross entropy's running sum after its sixteen points.
-/
module

public import proofs.«01_k».proof.Proof.RunKernelIdeal
public import proofs.«01_k».proof.Proof.AttValue
public import Idealize.ShloMosaic.Lib.Pipeline.ValueKit

@[expose] public section

noncomputable section

namespace Cert.Proof

open Idealize.ShloMosaic Cert.KernelIdeal Cert.KernelIdeal.Gen
open Cert.Proof.OfKernelIdeal

variable {F : FTy → Type} [FloatOps F] [Named F] (V : Vals (F := F)) (c : Dev nD)

theorem index_rows (t : Fin cfg1.N) : win1_0.index t = ![t.val, 0] := by
  revert t; decide +kernel

theorem index_labels (t : Fin cfg1.N) : win1_1.index t = ![t.val, 0, 0] := by
  revert t; decide +kernel

theorem attX_apply (t : Fin cfg1.N) (r : Fin 128) (v : Fin 10000) (h : 128 * t.val + r.val < 2048) :
    attX V c t (ix2 r v) = V c main_v6 (ix2 ⟨128 * t.val + r.val, h⟩ v) := by
  refine congrArg (V c main_v6) (a₁ := ((cfg1.win 0).blk t).view.emb (ix2 r v)) ?_
  blk_ext [index_rows t]

theorem attL_apply (t : Fin cfg1.N) (r : Fin 128) (h : t.val < 16) :
    attL V c t (ix3 0 r 0) = V c main_v8 (ix3 ⟨t.val, h⟩ r 0) := by
  refine congrArg (V c main_v8) (a₁ := ((cfg1.win 1).blk t).view.emb (ix3 0 r 0)) ?_
  blk_ext [index_labels t]

theorem ctcX_eq : ctcX V c = V c main_v5 := by
  funext i
  refine congrArg (V c main_v5) (a₁ := ((cfg2.win 0).blk t2_0).view.emb i) ?_
  blk_ext [show win2_0.index t2_0 = ![0, 0, 0] from by decide +kernel]

theorem ctcT_eq : ctcT V c = V c main_arg3 := by
  funext i
  refine congrArg (V c main_arg3) (a₁ := ((cfg2.win 1).blk t2_0).view.emb i) ?_
  blk_ext [show win2_1.index t2_0 = ![0, 0] from by decide +kernel]

theorem ctcI_eq : ctcI V c = V c main_v11 := by
  funext i
  refine congrArg (V c main_v11) (a₁ := ((cfg2.win 2).blk t2_0).view.emb i) ?_
  blk_ext [show win2_2.index t2_0 = ![0, 0] from by decide +kernel]

theorem ctcL_eq : ctcL V c = V c main_v12 := by
  funext i
  refine congrArg (V c main_v12) (a₁ := ((cfg2.win 3).blk t2_0).view.emb i) ?_
  blk_ext [show win2_3.index t2_0 = ![0, 0] from by decide +kernel]

/-- One point's share of the running sum, from the arrays. -/
def attPoint (x : S2048x10000.Idx → EReal) (l : S16x128x1.Idx → BitVec 32) (t : Fin 16) : EReal :=
  ∑ r : Fin 128, shortRow (l (ix3 t r 0)) (fun v => x (ix2 (⟨128 * t.val + r.val, by omega⟩ : Fin 2048) v))

theorem attAcc_sum (V : Vals (F := Ideal)) (n : ℕ) (hn : n ≤ 16) :
    attAcc V c n = ∑ t : Fin n, attPoint (V c main_v6) (V c main_v8) (t.castLE hn) := by
  induction n with
  | zero =>
    rw [attAcc, Finset.univ_eq_empty, Finset.sum_empty]
    exact Ideal.ofBits_zero_f32
  | succ n ih =>
    have hN : n < cfg1.N := lt_of_lt_of_eq (by omega : n < 16) N_1.symm
    rw [Fin.sum_univ_castSucc, attAcc, dif_pos hN, att_step, ih (by omega)]
    refine congrArg₂ (· + ·) rfl ?_
    unfold attPoint
    refine Finset.sum_congr rfl fun r _ => ?_
    rw [attL_apply V c ⟨n, hN⟩ r (by simpa using hn)]
    refine congrArg₂ shortRow rfl ?_
    funext v
    rw [attX_apply V c ⟨n, hN⟩ r v (by have := r.isLt; simp only; omega)]
    rfl

end Cert.Proof
-- ==== Proof.KernelTable.lean ====
/-
  The flat table the SparseCore call reads, and what it gathers, as arithmetic on indices.
-/
module

public import proofs.«01_k».proof.Proof.TileKernelIdeal
public import proofs.«01_k».proof.Proof.Spec
public import Idealize.ShloMosaic.Lib.Pointwise

@[expose] public section

noncomputable section

namespace Cert.Proof

open Idealize.ShloMosaic Cert.KernelIdeal Cert.KernelIdeal.Gen
open Cert.Proof.OfKernelIdeal Cert.Proof.IndexWords

/-- The encoder's scores in the order of the flat table: tiles of eight labels by 128 frames. -/
def table (X : S256x32x10000.Idx → EReal) : S81920000.Idx → EReal :=
  shapeCast S81920000 (transpose S32x1250x2x8x128 [0, 1, 3, 2, 4]
    (shapeCast S32x1250x8x2x128 (transpose S32x10000x256 [1, 2, 0] X transposes_S256x32x10000_S32x10000x256_1_2_0)
      shapeCasts_S32x10000x256_S32x1250x8x2x128) transposes_S32x1250x8x2x128_S32x1250x2x8x128_0_1_3_2_4)
    shapeCasts_S32x1250x2x8x128_S81920000

theorem labelN_lt (t : Fin 256) (b : Fin 32) (v : Fin 10000) : labelN v.val (t.val * 32 + b.val) < 81920000 := by
  unfold labelN baseN
  omega

theorem table_label (X : S256x32x10000.Idx → EReal) (t : Fin 256) (b : Fin 32) (v : Fin 10000) :
    table X (place (labelN v.val (t.val * 32 + b.val))) = X (ix3 t b v) := by
  have hp : place (labelN v.val (t.val * 32 + b.val)) = ix1 (⟨labelN v.val (t.val * 32 + b.val), labelN_lt t b v⟩ : Fin 81920000) := by
    funext a
    obtain rfl := Subsingleton.elim a 0
    exact Fin.ext (Nat.mod_eq_of_lt (labelN_lt t b v))
  rw [hp]
  pointwise [table]
  have hN : labelN v.val (t.val * 32 + b.val) = b.val * 2560000 + v.val / 8 * 2048 + t.val / 128 * 1024 + v.val % 8 * 128 + t.val % 128 := by
    unfold labelN baseN
    omega
  refine congrArg X ?_
  funext a
  fin_cases a <;> refine Fin.ext ?_
  · show labelN v.val (t.val * 32 + b.val) / 1024 % 2 * 128 + labelN v.val (t.val * 32 + b.val) % 128 = t.val
    omega
  · show labelN v.val (t.val * 32 + b.val) / 2560000 = b.val
    omega
  · show labelN v.val (t.val * 32 + b.val) / 2048 % 1250 * 8 + labelN v.val (t.val * 32 + b.val) / 128 % 8 = v.val
    rw [show labelN v.val (t.val * 32 + b.val) / 2048 = b.val * 1250 + v.val / 8 by omega,
      show labelN v.val (t.val * 32 + b.val) / 128 = b.val * 20000 + v.val / 8 * 16 + t.val / 128 * 8 + v.val % 8 by omega]
    omega

theorem table_blank (X : S256x32x10000.Idx → EReal) (t : Fin 256) (b : Fin 32) :
    table X (place (blankN (t.val * 32 + b.val))) = X (ix3 t b 9999) := by
  have h := table_label X t b 9999
  rwa [show labelN ((9999 : Fin 10000).val) (t.val * 32 + b.val) = blankN (t.val * 32 + b.val) from rfl] at h

/-- The gathered elements by frame, batch member and column. -/
def picked (tgt : S32x64.Idx → BitVec 32) (X : S256x32x10000.Idx → EReal) : S256x32x80.Idx → EReal :=
  shapeCast S256x32x80 (gat (F := Ideal) tgt (table X)) shapeCasts_S655360_S256x32x80

theorem picked_apply (tgt : S32x64.Idx → BitVec 32) (X : S256x32x10000.Idx → EReal) (t : Fin 256) (b : Fin 32) (l : Fin 80) :
    picked tgt X (ix3 t b l) = table X (place (entryN tgt (t.val * 32 + b.val) l.val)) := by
  unfold picked
  pointwise []
  show table X (place (entryN tgt ((t.val * 2560 + b.val * 80 + l.val) / 80) ((t.val * 2560 + b.val * 80 + l.val) % 80))) = _
  rw [show (t.val * 2560 + b.val * 80 + l.val) / 80 = t.val * 32 + b.val by omega, show (t.val * 2560 + b.val * 80 + l.val) % 80 = l.val by omega]

theorem picked_blank (tgt : S32x64.Idx → BitVec 32) (X : S256x32x10000.Idx → EReal) (t : Fin 256) (b : Fin 32) :
    picked tgt X (ix3 t b 64) = blankScore X b t.val := by
  rw [picked_apply, show entryN tgt (t.val * 32 + b.val) ((64 : Fin 80).val) = blankN (t.val * 32 + b.val) from dif_neg (by decide), table_blank]
  unfold blankScore
  rw [ofNat_val]

theorem picked_label (tgt : S32x64.Idx → BitVec 32) (X : S256x32x10000.Idx → EReal) (t : Fin 256) (b : Fin 32) (i : Fin 64)
    (h : i.val < 80) (ht : (tgt (ix2 b i)).toNat < 10000) :
    picked tgt X (ix3 t b ⟨i.val, h⟩) = labelScore X tgt b t.val i.val := by
  have hi : ix64 ((t.val * 32 + b.val) % 32) i.val (Nat.mod_lt _ (by omega)) i.isLt = ix2 b i := by
    funext a
    fin_cases a
    · exact Fin.ext (show (t.val * 32 + b.val) % 32 = b.val by omega)
    · rfl
  have he : entryN tgt (t.val * 32 + b.val) i.val = labelN ((⟨(tgt (ix2 b i)).toNat, ht⟩ : Fin 10000).val) (t.val * 32 + b.val) := by
    unfold entryN
    rw [dif_pos i.isLt, hi]
  rw [picked_apply, he, table_label]
  unfold labelScore
  rw [ofNat_val, ofNat_val]
  refine congrArg X (congrArg (ix3 t b) (Fin.ext ?_))
  rw [Fin.val_ofNat]
  exact (Nat.mod_eq_of_lt ht).symm

end Cert.Proof
-- ==== Proof.AttRow.lean ====
/-
  One row of the smoothed loss: the sum over the vocabulary that the reference writes is the kernel's short form, at
  finite scores.
-/
module

public import proofs.«01_k».proof.Proof.AttValue
public import Idealize.ShloMosaic.Lib.IdealHost

@[expose] public section

noncomputable section

namespace Cert.Proof

open Idealize.ShloMosaic

/-- The smoothed target's probability at word `v`, for label `g`. -/
def target (g v : BitVec 32) : EReal :=
  if g = 0#32 then 0 else if v = g then (confR : EReal) else if v = 0#32 then 0 else (smoothR : EReal)

/-- One term of the reference's sum: word `v`, whose score is `x`, of a row whose label is `g`. -/
def longTerm (g v : BitVec 32) (x : EReal) : EReal :=
  (if g = 0#32 ∨ v = 0#32 then 0
    else target g v * Ideal.log (if g = 0#32 ∨ v = 0#32 then 1 else target g v)) - target g v * x

theorem log_coe {r : ℝ} (h : 0 < r) : Ideal.log (r : EReal) = ((Real.log r : ℝ) : EReal) :=
  (show Ideal.log (r : EReal) = if r ≤ 0 then ⊥ else ((Real.log r : ℝ) : EReal) from rfl).trans (if_neg (not_le.mpr h))

theorem coe_sum {n : ℕ} (f : Fin n → ℝ) : (∑ v : Fin n, ((f v : ℝ) : EReal)) = ((∑ v : Fin n, f v : ℝ) : EReal) := by
  induction n with
  | zero => simp
  | succ n ih => rw [Fin.sum_univ_succ, Fin.sum_univ_succ, ih, EReal.coe_add]

theorem entropy_split : entropyR = confR * Real.log confR + 9998 * (smoothR * Real.log smoothR) := by
  have h : (387420489 / 99980000000000 : ℝ) = (9 / 10) ^ 9 * (1 / 99980) := by norm_num
  unfold entropyR confR smoothR
  rw [h, Real.log_mul (by norm_num) (by norm_num), Real.log_pow]
  push_cast
  ring

theorem real_row (γ : Fin 10000) (hγ : γ ≠ 0) (r : Fin 10000 → ℝ) (A B : ℝ) (c s : ℝ) :
    (∑ v : Fin 10000, if v = 0 then (0 : ℝ) else if v = γ then A - c * r v else B - s * r v)
      = (A + 9998 * B) - c * r γ - s * ((∑ v, r v) - r 0 - r γ) := by
  have h : ∀ v : Fin 10000, (if v = 0 then (0 : ℝ) else if v = γ then A - c * r v else B - s * r v)
      = (B - s * r v) + ((if v = 0 then -(B - s * r 0) else 0) + (if v = γ then (A - c * r γ) - (B - s * r γ) else 0)) := by
    intro v
    by_cases h0 : v = 0
    · subst h0; rw [if_pos rfl, if_pos rfl, if_neg (Ne.symm hγ)]; ring
    · by_cases h1 : v = γ
      · subst h1; rw [if_neg h0, if_pos rfl, if_neg h0, if_pos rfl]; ring
      · rw [if_neg h0, if_neg h1, if_neg h0, if_neg h1]; ring
  rw [Finset.sum_congr rfl fun v _ => h v, Finset.sum_add_distrib, Finset.sum_add_distrib,
    Finset.sum_ite_eq' Finset.univ (0 : Fin 10000), Finset.sum_ite_eq' Finset.univ γ, if_pos (Finset.mem_univ _),
    if_pos (Finset.mem_univ _), Finset.sum_sub_distrib, Finset.sum_const, ← Finset.mul_sum, Finset.card_univ, Fintype.card_fin]
  rw [nsmul_eq_mul]
  push_cast
  ring

theorem word_eq_iff (γ v : Fin 10000) : BitVec.ofNat 32 v.val = BitVec.ofNat 32 γ.val ↔ v = γ := by
  refine ⟨fun h => Fin.ext ?_, fun h => by rw [h]⟩
  have := congrArg BitVec.toNat h
  rw [BitVec.toNat_ofNat, BitVec.toNat_ofNat] at this
  omega

/-- The identity of the two forms. -/
theorem row_eq (g : BitVec 32) (hg : g.toNat < 10000) (r : Fin 10000 → ℝ) :
    (∑ v : Fin 10000, longTerm g (BitVec.ofNat 32 v.val) (r v : EReal)) = shortRow g (fun v => (r v : EReal)) := by
  obtain ⟨γ, rfl⟩ : ∃ γ : Fin 10000, g = BitVec.ofNat 32 γ.val := ⟨⟨g.toNat, hg⟩, by simp⟩
  have hz : ∀ v : Fin 10000, BitVec.ofNat 32 v.val = 0#32 ↔ v = 0 := fun v => word_eq_iff 0 v
  by_cases h0 : γ = 0
  · have e : BitVec.ofNat 32 γ.val = 0#32 := (hz γ).mpr h0
    rw [shortRow, if_pos e]
    refine Finset.sum_eq_zero fun v _ => ?_
    rw [longTerm, if_pos (.inl e), target, if_pos e, zero_mul, sub_zero]
  · have e : ¬ BitVec.ofNat 32 γ.val = 0#32 := fun h => h0 ((hz γ).mp h)
    have hs : (∑ v : Fin 10000, if BitVec.ofNat 32 v.val = BitVec.ofNat 32 γ.val then ((r v : ℝ) : EReal) else 0) = ((r γ : ℝ) : EReal) := by
      simp only [word_eq_iff]
      rw [Finset.sum_ite_eq' Finset.univ γ, if_pos (Finset.mem_univ _)]
    rw [shortRow, if_neg e, hs, coe_sum, entropy_split, ← EReal.coe_mul, ← EReal.coe_sub, ← EReal.coe_sub, ← EReal.coe_sub,
      ← EReal.coe_mul, ← EReal.coe_sub, ← real_row γ h0 r, ← coe_sum]
    refine Finset.sum_congr rfl fun v _ => ?_
    rw [longTerm, target, if_neg e]
    simp only [word_eq_iff, hz, h0, false_or]
    by_cases v0 : v = 0
    · subst v0
      rw [if_pos rfl, if_neg (Ne.symm h0), if_pos rfl, if_pos rfl, zero_mul, sub_zero, EReal.coe_zero]
    · by_cases v1 : v = γ
      · subst v1
        simp only [v0, if_false, if_true]
        rw [log_coe (by norm_num [confR]), ← EReal.coe_mul, ← EReal.coe_mul, ← EReal.coe_sub]
      · simp only [v0, v1, if_false]
        rw [log_coe (by norm_num [smoothR]), ← EReal.coe_mul, ← EReal.coe_mul, ← EReal.coe_sub]

/-! The reference's two literals. -/

theorem ofBits_nine : Ideal.ofBits .f32 0x41100000#32 = ((9 : ℝ) : EReal) := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num
theorem ofBits_words : Ideal.ofBits .f32 0x47C34600#32 = ((99980 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

theorem conf_div : Ideal.div (Ideal.ofBits .f32 0x41100000#32) (Ideal.ofBits .f32 0x41200000#32) = (confR : EReal) := by
  rw [ofBits_nine, ofBits_ten, Ideal.div_coe (by norm_num), ← EReal.coe_mul]
  congr 1; norm_num [confR]
theorem smooth_div : Ideal.div 1 (Ideal.ofBits .f32 0x47C34600#32) = (smoothR : EReal) := by
  rw [ofBits_words, Ideal.div_coe (by norm_num), one_mul]

end Cert.Proof

end
-- ==== Proof.KernelValue.lean ====
/-
  The kernel's result in closed form, from its six arguments.
-/
module

public import proofs.«01_k».proof.Proof.KernelBlocks
public import proofs.«01_k».proof.Proof.KernelTable
public import proofs.«01_k».proof.Proof.CtcValue
public import proofs.«01_k».proof.Proof.AttRow
public import Idealize.ShloMosaic.Lib.StableHlo.RunRead
public import Idealize.ShloMosaic.Lib.StableHlo.RunClose

@[expose] public section

noncomputable section

namespace Cert.Proof

open Idealize.ShloMosaic Cert.KernelIdeal Cert.KernelIdeal.Gen
open Cert.Proof.OfKernelIdeal Cert.Proof.IndexWords

variable (m : (l : Loc nD τ sig) → Buf (Elt Ideal) l) (d : Dev nD)

theorem V1_v3 : V1 m d (Proc.devRef .tc main_v3) = table (V0 m d (Proc.devRef .tc main_arg2)) := by
  unfold V1 opsA
  after_results_entrywise []

theorem V3_v5 : V3 m d (Proc.devRef .tc main_v5)
    = shapeCast S256x32x80 (V2 m d (Proc.devRef .tc main_v4) : S655360.Idx → EReal) shapeCasts_S655360_S256x32x80 := by
  unfold V3 opsB
  after_results_entrywise []

theorem V3_v6 : V3 m d (Proc.devRef .tc main_v6)
    = shapeCast S2048x10000 (V2 m d (Proc.devRef .tc main_arg0) : S32x64x10000.Idx → EReal) shapeCasts_S32x64x10000_S2048x10000 := by
  unfold V3 opsB
  after_results_entrywise []

theorem V3_v8 : V3 m d (Proc.devRef .tc main_v8)
    = shapeCast S16x128x1 (shapeCast S2048 (V2 m d (Proc.devRef .tc main_arg1) : S32x64.Idx → BitVec 32) shapeCasts_S32x64_S2048) shapeCasts_S2048_S16x128x1 := by
  unfold V3 opsB
  after_results_entrywise []

theorem opsC_writes5 : (opsC : List (HloOp τ sig (Elt Ideal))).Forall fun op =>
    op.writes ⊆ (([main_v10, main_v11, main_v12] : List (Ref sig .tc)).map (Proc.devRef (τ := τ) .tc)).toFinset := by
  simp [opsC]

theorem V5_v10 : V5 m d (Proc.devRef .tc main_v10)
    = shapeCast S_ (V4 m d (Proc.devRef .tc main_v9) : S1x1.Idx → EReal) shapeCasts_S1x1_S_ := by
  unfold V5 opsC
  after_results_entrywise []

theorem V5_v11 : V5 m d (Proc.devRef .tc main_v11)
    = shapeCast S32x1 (V4 m d (Proc.devRef .tc main_arg4) : S32.Idx → BitVec 32) shapeCasts_S32_S32x1 := by
  unfold V5 opsC
  after_results_entrywise []

theorem V5_v12 : V5 m d (Proc.devRef .tc main_v12)
    = shapeCast S32x1 (V4 m d (Proc.devRef .tc main_arg5) : S32.Idx → BitVec 32) shapeCasts_S32_S32x1 := by
  unfold V5 opsC
  after_results_entrywise []

theorem V7_v17 : V7 m d (Proc.devRef .tc main_v17)
    = addf (F := Ideal) (φ := .f32) (s := S_) (mulf (F := Ideal) (constant S_ .f32 0x3F000000#32) (V6 m d (Proc.devRef .tc main_v10)))
      (mulf (F := Ideal) (constant S_ .f32 0x3F000000#32) (shapeCast S_ (V6 m d (Proc.devRef .tc main_v13) : S1x1.Idx → EReal) shapeCasts_S1x1_S_)) := by
  unfold V7 opsD
  after_results_entrywise []

/-! ## The cross entropy's sum over all rows -/

theorem sum_blocks (f : ℕ → EReal) (a b : ℕ) : ∑ i : Fin a, ∑ j : Fin b, f (b * i.val + j.val) = ∑ n ∈ Finset.range (a * b), f n := by
  induction a with
  | zero => rw [Nat.zero_mul, Finset.range_zero, Finset.sum_empty, Finset.univ_eq_empty, Finset.sum_empty]
  | succ a ih =>
    rw [Fin.sum_univ_castSucc, Nat.succ_mul, Finset.sum_range_add]
    refine congrArg₂ (· + ·) ih ?_
    rw [Finset.sum_range fun j => f (a * b + j)]
    refine Finset.sum_congr rfl fun j _ => ?_
    rw [Fin.val_last, Nat.mul_comm]

/-- The scores, a row per batch member and step. -/
def rowsX (x : S32x64x10000.Idx → EReal) : S2048x10000.Idx → EReal := shapeCast S2048x10000 x shapeCasts_S32x64x10000_S2048x10000

/-- The labels, a row per batch member and step, sixteen blocks of 128. -/
def rowsL (l : S32x64.Idx → BitVec 32) : S16x128x1.Idx → BitVec 32 :=
  shapeCast S16x128x1 (shapeCast S2048 l shapeCasts_S32x64_S2048) shapeCasts_S2048_S16x128x1

/-- Row `n` of the cross entropy. -/
def rowAt (x : S32x64x10000.Idx → EReal) (l : S32x64.Idx → BitVec 32) (n : ℕ) : EReal :=
  shortRow (l (ix2 (Fin.ofNat 32 (n / 64)) (Fin.ofNat 64 (n % 64)))) (fun v => x (ix3 (Fin.ofNat 32 (n / 64)) (Fin.ofNat 64 (n % 64)) v))

theorem rowsX_apply (x : S32x64x10000.Idx → EReal) (n : Fin 2048) (v : Fin 10000) :
    rowsX x (ix2 n v) = x (ix3 (Fin.ofNat 32 (n.val / 64)) (Fin.ofNat 64 (n.val % 64)) v) := by
  pointwise [rowsX]
  have hb : (⟨n.val / 64, by omega⟩ : Fin 32) = Fin.ofNat 32 (n.val / 64) := Fin.ext (by rw [Fin.val_ofNat]; simp only; omega)
  have hs : (⟨n.val % 64, by omega⟩ : Fin 64) = Fin.ofNat 64 (n.val % 64) := Fin.ext (by rw [Fin.val_ofNat]; simp only; omega)
  exact congrArg₂ (fun b s => x (ix3 b s v)) hb hs

theorem rowsL_apply (l : S32x64.Idx → BitVec 32) (t : Fin 16) (r : Fin 128) :
    rowsL l (ix3 t r 0) = l (ix2 (Fin.ofNat 32 ((128 * t.val + r.val) / 64)) (Fin.ofNat 64 ((128 * t.val + r.val) % 64))) := by
  pointwise [rowsL]
  have hb : (⟨t.val * 2 + r.val / 64, by omega⟩ : Fin 32) = Fin.ofNat 32 ((128 * t.val + r.val) / 64) :=
    Fin.ext (by rw [Fin.val_ofNat]; simp only; omega)
  have hs : (⟨r.val % 64, by omega⟩ : Fin 64) = Fin.ofNat 64 ((128 * t.val + r.val) % 64) :=
    Fin.ext (by rw [Fin.val_ofNat]; simp only; omega)
  exact congrArg₂ (fun b s => l (ix2 b s)) hb hs

theorem att_rows (x : S32x64x10000.Idx → EReal) (l : S32x64.Idx → BitVec 32) :
    ∑ t : Fin 16, attPoint (rowsX x) (rowsL l) t = ∑ b : Fin 32, ∑ s : Fin 64, shortRow (l (ix2 b s)) (fun v => x (ix3 b s v)) := by
  have h1 : ∀ t : Fin 16, attPoint (rowsX x) (rowsL l) t = ∑ r : Fin 128, rowAt x l (128 * t.val + r.val) := by
    intro t
    unfold attPoint rowAt
    refine Finset.sum_congr rfl fun r _ => ?_
    rw [rowsL_apply]
    refine congrArg₂ shortRow rfl ?_
    funext v
    rw [rowsX_apply]
  have h2 : ∀ (b : Fin 32) (s : Fin 64), shortRow (l (ix2 b s)) (fun v => x (ix3 b s v)) = rowAt x l (64 * b.val + s.val) := by
    intro b s
    unfold rowAt
    rw [show (64 * b.val + s.val) / 64 = b.val by omega, show (64 * b.val + s.val) % 64 = s.val by omega, ofNat_val, ofNat_val]
  simp only [h1, h2]
  rw [sum_blocks (rowAt x l) 16 128, sum_blocks (rowAt x l) 32 64]

/-! ## The result -/

theorem kernel_value (x : S32x64x10000.Idx → EReal) (lab : S32x64.Idx → BitVec 32) (enc : S256x32x10000.Idx → EReal)
    (tgt : S32x64.Idx → BitVec 32) (il tl : S32.Idx → BitVec 32)
    (hx : m (d, Proc.devRef .tc main_arg0) = x) (hlab : m (d, Proc.devRef .tc main_arg1) = lab)
    (henc : m (d, Proc.devRef .tc main_arg2) = enc) (htgt : m (d, Proc.devRef .tc main_arg3) = tgt)
    (hil : m (d, Proc.devRef .tc main_arg4) = il) (htl : m (d, Proc.devRef .tc main_arg5) = tl)
    (ht : ∀ b i, (tgt (ix2 b i)).toNat < 10000) (hlen : ∀ b, 1 ≤ (tl (ix1 b)).toNat ∧ (tl (ix1 b)).toNat ≤ 64) :
    V7 m d (Proc.devRef .tc main_v17) = fun _ =>
      ((1/2 : ℝ) : EReal) * (∑ b : Fin 32, ∑ s : Fin 64, shortRow (lab (ix2 b s)) (fun v => x (ix3 b s v)))
        + ((1/2 : ℝ) : EReal) * ∑ b : Fin 32, rowLoss enc tgt il tl b := by
  have e0 : V2 m d (Proc.devRef .tc main_arg0) = x := by
    rw [V2_ne m d (by decide), V1_of m d (by decide), hx]
  have e1 : V2 m d (Proc.devRef .tc main_arg1) = lab := by
    rw [V2_ne m d (by decide), V1_of m d (by decide), hlab]
  have e3 : V5 m d (Proc.devRef .tc main_arg3) = tgt := by
    rw [V5_of m d (by decide), htgt]
  have e4 : V4 m d (Proc.devRef .tc main_arg4) = il := by
    rw [V4_ne m d (by decide), V3_of m d (by decide), hil]
  have e5 : V4 m d (Proc.devRef .tc main_arg5) = tl := by
    rw [V4_ne m d (by decide), V3_of m d (by decide), htl]
  have e6 : V3 m d (Proc.devRef .tc main_v6) = rowsX x := by
    rw [V3_v6, e0]; rfl
  have e8 : V3 m d (Proc.devRef .tc main_v8) = rowsL lab := by
    rw [V3_v8, e1]; rfl
  have ev : V5 m d (Proc.devRef .tc main_v5) = picked tgt enc := by
    rw [show V5 m d (Proc.devRef .tc main_v5) = V4 m d (Proc.devRef .tc main_v5) from StableHlo.after_of_writes_sub opsC _ opsC_writes5 (by decide),
      V4_ne m d (by decide), V3_v5, V2_v4, V1_of m d (by decide), V1_v3, htgt, show V0 m d (Proc.devRef .tc main_arg2) = enc from henc]
    rfl
  have ea : V4 m d (Proc.devRef .tc main_v9) = fun _ => ∑ b : Fin 32, ∑ s : Fin 64, shortRow (lab (ix2 b s)) (fun v => x (ix3 b s v)) := by
    rw [V4_v9, attAcc_sum d _ 16 (le_refl _), e6, e8, ← att_rows]
    rfl
  have ec : V6 m d (Proc.devRef .tc main_v13) = fun _ => ∑ b : Fin 32, rowLoss enc tgt il tl b := by
    rw [V6_v13, ctcX_eq, ctcT_eq, ctcI_eq, ctcL_eq, ev, e3, V5_v11, V5_v12, e4, e5]
    funext _
    refine ctcOut_eq _ _ _ _ enc il tl (fun b t => picked_blank tgt enc t b) (fun b t i => picked_label tgt enc t b i _ (ht b i)) ?_ ?_ hlen
    · intro b
      pointwise []
    · intro b
      pointwise []
  rw [V7_v17, V6_ne m d (by decide), V5_v10, ea, ec]
  funext j
  obtain rfl := Subsingleton.elim j ix0
  pointwise [ofBits_half]

end Cert.Proof
-- ==== Proof.RefGather.lean ====
/-
  The reference's two gathers along the last axis, read at an entry.
-/
module

public import proofs.«01_k».proof.Proof.Gen.ReferenceIdeal.Run
public import proofs.«01_k».proof.Proof.Spec

@[expose] public section

noncomputable section

namespace Cert.Proof

open Idealize.ShloMosaic Cert.ReferenceIdeal Cert.ReferenceIdeal.Gen

theorem gather_table {α : Type} (x : S256x32x10000.Idx → α) (idx : IVec S256x32x129x1 32) (t : Fin 256) (b : Fin 32) (j : Fin 129) :
    Host.gather gather_S256x32x10000_S256x32x129x1_S256x32x129_n_2_01_01_2_3_111 x idx (ix3 t b j)
      = x (ix3 t b ⟨min (idx (ix4 t b j 0)).toInt.toNat 9999, by omega⟩) := by
  unfold Host.gather
  refine congrArg x ?_
  funext a
  refine Fin.ext ?_
  have hs : ∀ c, GatherDims.siIdx gather_S256x32x10000_S256x32x129x1_S256x32x129_n_2_01_01_2_3_111 (ix3 t b j) c = ix4 t b j 0 := by
    intro c
    funext b'
    refine Fin.ext ?_
    fin_cases b'
    · rfl
    · rfl
    · rfl
    · have := c.isLt
      show c.val = 0
      have h : c.val < 1 := c.isLt
      omega
  fin_cases a
  · show 0 + t.val + 0 = t.val
    omega
  · show 0 + b.val + 0 = b.val
    omega
  · show min (idx (GatherDims.siIdx gather_S256x32x10000_S256x32x129x1_S256x32x129_n_2_01_01_2_3_111 (ix3 t b j) _)).toInt.toNat 9999 + 0 + 0 = min (idx (ix4 t b j 0)).toInt.toNat 9999
    rw [hs]
    omega

theorem gather_scores {α : Type} (x : S32x129.Idx → α) (idx : IVec S32x2x1 32) (b : Fin 32) (j : Fin 2) :
    Host.gather gather_S32x129_S32x2x1_S32x2_n_1_0_0_1_2_11 x idx (ix2 b j)
      = x (ix2 b ⟨min (idx (ix3 b j 0)).toInt.toNat 128, by omega⟩) := by
  unfold Host.gather
  refine congrArg x ?_
  funext a
  refine Fin.ext ?_
  have hs : ∀ c, GatherDims.siIdx gather_S32x129_S32x2x1_S32x2_n_1_0_0_1_2_11 (ix2 b j) c = ix3 b j 0 := by
    intro c
    funext b'
    refine Fin.ext ?_
    fin_cases b'
    · rfl
    · rfl
    · show c.val = 0
      have h : c.val < 1 := c.isLt
      omega
  fin_cases a
  · show 0 + b.val + 0 = b.val
    omega
  · show min (idx (GatherDims.siIdx gather_S32x129_S32x2x1_S32x2_n_1_0_0_1_2_11 (ix2 b j) _)).toInt.toNat 128 + 0 + 0 = min (idx (ix3 b j 0)).toInt.toNat 128
    rw [hs]
    omega

end Cert.Proof

end
-- ==== Proof.RefEntry.lean ====
/-
  What the reference's loop starts from: the frame numbers, the scores of the doubled target's labels frame by frame, the
  positions that may be entered from two before, the input lengths, and the first frame's scores.
-/
module

public import proofs.«01_k».proof.Proof.RefGather
public import Idealize.ShloMosaic.Lib.Tactic.CleanTypes
public import Idealize.ShloMosaic.Lib.WordCmp
public import Idealize.ShloMosaic.Lib.StableHlo.RunRead

@[expose] public section

set_option maxRecDepth 16384

noncomputable section

namespace Cert.Proof

open Idealize.ShloMosaic Cert.ReferenceIdeal Cert.ReferenceIdeal.Gen Cert.ReferenceIdeal.Value StableHlo

/-- Position `s` of the doubled target of row `b`: a blank at even positions, a label at odd ones. -/
def ext (tgt : S32x64.Idx → BitVec 32) (b : Fin 32) (s : ℕ) : BitVec 32 :=
  if s % 2 = 0 then 9999#32 else tgt (ix2 b (Fin.ofNat 64 (s / 2)))

/-- Frame `t`'s score of position `s`. -/
def extScore (enc : S256x32x10000.Idx → EReal) (tgt : S32x64.Idx → BitVec 32) (b : Fin 32) (t s : ℕ) : EReal :=
  if s % 2 = 0 then blankScore enc b t else labelScore enc tgt b t (s / 2)

/-- The doubled targets, as the program builds them. -/
def targets2 (tgt : S32x64.Idx → BitVec 32) : S32x129.Idx → BitVec 32 :=
  concatenate S32x129 1 [⟨S32x128, shapeCast S32x128 (concatenate S32x64x2 2
      [⟨S32x64x1, broadcastInDim S32x64x1 ![0, 1] bcast_S32x64_S32x64x1_0_1 (broadcastInDim S32x64 ![] bcast_S_S32x64 (constantI S_ 32 9999#32))⟩,
       ⟨S32x64x1, broadcastInDim S32x64x1 ![0, 1] bcast_S32x64_S32x64x1_0_1 tgt⟩] concatenates_S32x64x1_S32x64x1_S32x64x2_d2) shapeCasts_S32x64x2_S32x128⟩,
    ⟨S32x1, extractStridedSlice S32x1 ![0, 0] (broadcastInDim S32x64 ![] bcast_S_S32x64 (constantI S_ 32 9999#32)) slices_S32x64_S32x1_0_0⟩]
    concatenates_S32x128_S32x1_S32x129_d1

theorem targets2_apply (tgt : S32x64.Idx → BitVec 32) (b : Fin 32) (s : Fin 129) : targets2 tgt (ix2 b s) = ext tgt b s.val := by
  have hs := s.isLt
  unfold targets2 ext
  pointwise
  split
  · split
    · rw [if_pos (by omega)]
    · refine Eq.trans (congrArg (fun i => tgt (ix2 b i)) (Fin.ext ?_)) (if_neg (by omega)).symm
      show s.val / 2 = s.val / 2 % 64
      omega
  · rw [if_pos (by omega)]

theorem read_v6 (V : Valuation τ sig (Elt Ideal)) :
    after hostOps0 V (no_index (Proc.devRef .tc main_v6)) = targets2 (V (Proc.devRef .tc main_arg3)) := by
  after_results_entrywise []

theorem read_v8 (V : Valuation τ sig (Elt Ideal)) :
    after hostOps0 V (no_index (Proc.devRef .tc main_v8)) = broadcastInDim S256x32x129 ![0, 1, 2] bcast_S1x32x129_S256x32x129_0_1_2
      (broadcastInDim S1x32x129 ![1, 2] bcast_S32x129_S1x32x129_1_2 (targets2 (V (Proc.devRef .tc main_arg3)))) := by
  after_results_entrywise []

theorem bcast_apply (x : S32x129.Idx → BitVec 32) (t : Fin 256) (b : Fin 32) (s : Fin 129) :
    broadcastInDim S256x32x129 ![0, 1, 2] bcast_S1x32x129_S256x32x129_0_1_2
      (broadcastInDim S1x32x129 ![1, 2] bcast_S32x129_S1x32x129_1_2 x) (ix3 t b s) = x (ix2 b s) := by
  pointwise

/-- A word below 10000 passes the range test and is not wrapped. -/
theorem in_table (w : BitVec 32) (h : w.toNat < 10000) :
    Scalar.select (IntOp.cmpi .slt w 0#32) (IntOp.addi w 10000#32) w = w ∧ IntOp.cmpi .sge w 0#32 = 1#1 ∧
      IntOp.cmpi .sle w 9999#32 = 1#1 ∧ min w.toInt.toNat 9999 = w.toNat := by
  have hi : w.toInt = w.toNat := BitVec.toInt_eq_toNat_of_lt (by omega)
  have e1 : w.slt 0#32 = false := by
    rw [BitVec.slt, hi]
    exact decide_eq_false (by show ¬ ((w.toNat : Int) < 0); omega)
  have e2 : (0#32 : BitVec 32).sle w = true := by
    rw [BitVec.sle, hi]
    exact decide_eq_true (by show (0 : Int) ≤ w.toNat; omega)
  have e3 : w.sle 9999#32 = true := by
    rw [BitVec.sle, hi]
    exact decide_eq_true (by show (w.toNat : Int) ≤ 9999; omega)
  refine ⟨?_, ?_, ?_, ?_⟩
  · rw [show IntOp.cmpi .slt w 0#32 = BitVec.ofBool (w.slt 0#32) from rfl, e1]
    rfl
  · rw [show IntOp.cmpi .sge w 0#32 = BitVec.ofBool ((0#32 : BitVec 32).sle w) from rfl, e2]
    rfl
  · rw [show IntOp.cmpi .sle w 9999#32 = BitVec.ofBool (w.sle 9999#32) from rfl, e3]
    rfl
  · rw [hi]
    omega

/-- The wrapped indices of the gather. -/
def wrapped (v8 : S256x32x129.Idx → BitVec 32) : S256x32x129x1.Idx → BitVec 32 :=
  shapeCast S256x32x129x1 (select (cmpi .slt v8 (broadcastInDim S256x32x129 ![] bcast_S_S256x32x129 (constantI S_ 32 0#32)))
    (addi v8 (broadcastInDim S256x32x129 ![] bcast_S_S256x32x129 (constantI S_ 32 10000#32))) v8) shapeCasts_S256x32x129_S256x32x129x1

theorem wrapped_apply (v8 : S256x32x129.Idx → BitVec 32) (t : Fin 256) (b : Fin 32) (s : Fin 129) (z : Fin 1) :
    wrapped v8 (ix4 t b s z) = Scalar.select (IntOp.cmpi .slt (v8 (ix3 t b s)) 0#32) (IntOp.addi (v8 (ix3 t b s)) 10000#32) (v8 (ix3 t b s)) := by
  unfold wrapped
  pointwise

theorem tested_apply (w : S256x32x129x1.Idx → BitVec 32) (t : Fin 256) (b : Fin 32) (s : Fin 129)
    (h : ∀ z : Fin 1, IntOp.cmpi .sge (w (ix4 t b s z)) 0#32 = 1#1 ∧ IntOp.cmpi .sle (w (ix4 t b s z)) 9999#32 = 1#1) :
    Host.reduce IntOp.andi (andi (cmpi .sge w (broadcastInDim S256x32x129x1 ![] bcast_S_S256x32x129x1 (constantI S_ 32 0#32)))
      (cmpi .sle w (broadcastInDim S256x32x129x1 ![0, 1, 2, 3] bcast_S1x1x1x1_S256x32x129x1_0_1_2_3
        (broadcastInDim S1x1x1x1 ![3] bcast_S1_S1x1x1x1_3 (constantI S1 32 9999#32))))) (constantI S_ 1 1#1)
      reducesTo_S256x32x129x1_S256x32x129_d3 h_S_ (ix3 t b s) = 1#1 := by
  pointwise
  simp only [(h _).1, (h _).2, Finset.univ_unique, Finset.fold_singleton]
  rfl

theorem read_v9_eq (V : Valuation τ sig (Elt Ideal)) :
    after hostOps0_1 V (no_index (Proc.devRef .tc main_v9)) =
      select (Host.reduce IntOp.andi (andi (cmpi .sge (wrapped (V (Proc.devRef .tc main_v8))) (broadcastInDim S256x32x129x1 ![] bcast_S_S256x32x129x1 (constantI S_ 32 0#32)))
      (cmpi .sle (wrapped (V (Proc.devRef .tc main_v8))) (broadcastInDim S256x32x129x1 ![0, 1, 2, 3] bcast_S1x1x1x1_S256x32x129x1_0_1_2_3
        (broadcastInDim S1x1x1x1 ![3] bcast_S1_S1x1x1x1_3 (constantI S1 32 9999#32))))) (constantI S_ 1 1#1)
      reducesTo_S256x32x129x1_S256x32x129_d3 h_S_)
      (Host.gather gather_S256x32x10000_S256x32x129x1_S256x32x129_n_2_01_01_2_3_111 (V (Proc.devRef .tc main_arg2) : S256x32x10000.Idx → EReal) (wrapped (V (Proc.devRef .tc main_v8))))
      (broadcastInDim S256x32x129 ![] bcast_S_S256x32x129 (constant (F := Ideal) S_ .f32 0x7FC00000#32)) := by
  after_reads_simp
  simp only [id_eq, StableHlo.TRef.toBuf, StableHlo.TRef.ofBuf, cast_eq]
  unfold wrapped
  rfl

theorem read_v9 (V : Valuation τ sig (Elt Ideal)) (v8 : S256x32x129.Idx → BitVec 32) (enc : S256x32x10000.Idx → EReal)
    (h : V (Proc.devRef .tc main_arg2) = enc) (h8 : V (Proc.devRef .tc main_v8) = v8) (t : Fin 256) (b : Fin 32) (s : Fin 129)
    (hr : (v8 (ix3 t b s)).toNat < 10000) :
    (after hostOps0_1 V (Proc.devRef .tc main_v9) : S256x32x129.Idx → EReal) (ix3 t b s) = enc (ix3 t b ⟨(v8 (ix3 t b s)).toNat, hr⟩) := by
  rw [read_v9_eq, h, h8]
  obtain ⟨h1, h2, h3, h4⟩ := in_table _ hr
  rw [show ∀ (c : IVec S256x32x129 1) (x y : S256x32x129.Idx → EReal) i, select c x y i = Scalar.select (c i) (x i) (y i) from fun _ _ _ _ => rfl,
    tested_apply _ t b s (fun z => by rw [wrapped_apply, h1]; exact ⟨h2, h3⟩), gather_table]
  refine congrArg enc (congrArg (ix3 t b) (Fin.ext ?_))
  show min (wrapped v8 (ix4 t b s 0)).toInt.toNat 9999 = _
  rw [wrapped_apply, h1, h4]

theorem keep_v6 (V : Valuation τ sig (Elt Ideal)) : after hostOps0_1 V (Proc.devRef .tc main_v6) = V (Proc.devRef .tc main_v6) := by
  after_reads_simp

theorem ne_ofBool (a b : BitVec 32) : IntOp.cmpi .ne a b = BitVec.ofBool (decide (a ≠ b)) := by
  show BitVec.ofBool (a != b) = _
  congr 1
  by_cases h : a = b <;> simp [h]

theorem and_ofBool (a b : Bool) : IntOp.andi (BitVec.ofBool a) (BitVec.ofBool b) = BitVec.ofBool (a && b) := by
  cases a <;> cases b <;> rfl

/-- The positions that may be entered from two before, of the doubled targets. -/
def skips (v6 : S32x129.Idx → BitVec 32) : S32x129.Idx → BitVec 1 :=
  concatenate S32x129 1 [⟨S32x2, broadcastInDim S32x2 ![] bcast_S_S32x2 (constantI S_ 1 0#1)⟩,
    ⟨S32x127, andi (cmpi .ne (extractStridedSlice S32x127 ![0, 2] v6 slices_S32x129_S32x127_0_2)
        (broadcastInDim S32x127 ![] bcast_S_S32x127 (constantI S_ 32 9999#32)))
      (cmpi .ne (extractStridedSlice S32x127 ![0, 2] v6 slices_S32x129_S32x127_0_2)
        (extractStridedSlice S32x127 ![0, 0] v6 slices_S32x129_S32x127_0_0))⟩] concatenates_S32x2_S32x127_S32x129_d1

theorem read_v18_eq (V : Valuation τ sig (Elt Ideal)) :
    after hostOps0_2 V (no_index (Proc.devRef .tc main_v18)) = skips (V (Proc.devRef .tc main_v6)) := by
  after_results_entrywise []

theorem skips_apply (tgt : S32x64.Idx → BitVec 32) (v6 : S32x129.Idx → BitVec 32)
    (h : ∀ (b : Fin 32) (s : Fin 129), v6 (ix2 b s) = ext tgt b s.val)
    (ht : ∀ (b : Fin 32) (i : Fin 64), (tgt (ix2 b i)).toNat < 9999) (b : Fin 32) (s : Fin 129) :
    skips v6 (ix2 b s) = BitVec.ofBool (decide (s.val % 2 = 1) && mayEnter tgt b (s.val / 2)) := by
  unfold skips
  pointwise
  simp only [ne_ofBool, and_ofBool, h]
  have hs := s.isLt
  by_cases h2 : s.val < 2
  · rw [dif_pos h2]
    have : s.val / 2 = 0 := by omega
    rw [this]
    simp [mayEnter]
  · rw [dif_neg h2]
    congr 1
    unfold ext
    by_cases h3 : s.val % 2 = 0
    · rw [if_pos (by omega)]
      have : ¬ (s.val % 2 = 1) := by omega
      simp [this]
    · rw [if_neg (by omega), if_neg (by omega)]
      have e1 : s.val % 2 = 1 := by omega
      have e2 : (2 + (s.val - 2)) / 2 = s.val / 2 := by omega
      have e3 : (s.val - 2) / 2 = s.val / 2 - 1 := by omega
      have e4 : s.val / 2 ≠ 0 := by omega
      have e5 : tgt (ix2 b (Fin.ofNat 64 (s.val / 2))) ≠ 9999#32 := by
        intro e
        have := ht b (Fin.ofNat 64 (s.val / 2))
        rw [e] at this
        exact absurd this (by decide)
      rw [e2, e3]
      simp only [mayEnter, e1, e4, decide_true, Bool.true_and, ne_eq, not_false_eq_true, e5]

theorem read_v21 (V : Valuation τ sig (Elt Ideal)) (b : Fin 32) (s : Fin 129) :
    (after hostOps0_2 V (Proc.devRef .tc main_v21) : S32x129.Idx → BitVec 1) (ix2 b s) = BitVec.ofBool (decide (s.val < 2)) := by
  after_reads_simp
  clean_types
  pointwise
  have hs := s.isLt
  show BitVec.ofBool ((BitVec.ofNat 32 s.val).slt 2#32) = _
  have hn : (BitVec.ofNat 32 s.val).toNat = s.val := by rw [BitVec.toNat_ofNat]; omega
  rw [BitVec.slt, BitVec.toInt_eq_toNat_of_lt (by omega), hn]
  congr 1
  exact decide_eq_decide.mpr (by show (s.val : Int) < 2 ↔ s.val < 2; omega)

theorem read_v23 (V : Valuation τ sig (Elt Ideal)) (v9 : S256x32x129.Idx → EReal)
    (h : V (Proc.devRef .tc main_v9) = v9) (b : Fin 32) (s : Fin 129) :
    (after hostOps0_2 V (Proc.devRef .tc main_v23) : S32x129.Idx → EReal) (ix2 b s) = v9 (ix3 0 b s) := by
  after_reads_simp
  rw [h]
  clean_types
  pointwise

theorem read_cst (V : Valuation τ sig (Elt Ideal)) :
    after hostOps0_2 V (Proc.devRef .tc main_cst) = (constant (F := Ideal) S_ .f32 0xFF800000#32 : FVec Ideal S_ .f32) := by
  after_reads_simp

theorem keep_v9 (V : Valuation τ sig (Elt Ideal)) : after hostOps0_2 V (Proc.devRef .tc main_v9) = V (Proc.devRef .tc main_v9) := by
  after_reads_simp
theorem keep_v9' (V : Valuation τ sig (Elt Ideal)) : after hostOps0_3 V (Proc.devRef .tc main_v9) = V (Proc.devRef .tc main_v9) := by
  after_reads_simp
theorem keep_v18 (V : Valuation τ sig (Elt Ideal)) : after hostOps0_3 V (Proc.devRef .tc main_v18) = V (Proc.devRef .tc main_v18) := by
  after_reads_simp

theorem read_v24 (V : Valuation τ sig (Elt Ideal)) (v23 : S32x129.Idx → EReal) (v21 : S32x129.Idx → BitVec 1)
    (h : V (Proc.devRef .tc main_v23) = v23) (h21 : V (Proc.devRef .tc main_v21) = v21)
    (h0 : V (Proc.devRef .tc main_cst) = (constant (F := Ideal) S_ .f32 0xFF800000#32 : FVec Ideal S_ .f32)) (b : Fin 32) (s : Fin 129) :
    (after hostOps0_3 V (Proc.devRef .tc main_v24) : S32x129.Idx → EReal) (ix2 b s)
      = Scalar.select (v21 (ix2 b s)) (v23 (ix2 b s)) ⊥ := by
  after_reads_simp
  rw [h, h21, h0]
  simp only [id_eq, StableHlo.TRef.toBuf, StableHlo.TRef.ofBuf, cast_eq]
  clean_types
  pointwise
  rfl

theorem read_v29_0 (V : Valuation τ sig (Elt Ideal)) (k : Fin 255) :
    (after hostOps0_4 V (Proc.devRef .tc main_v29_0) : S255.Idx → BitVec 32) (ix1 k) = BitVec.ofNat 32 (k.val + 1) := by
  after_reads_simp
  simp only [id_eq, StableHlo.TRef.toBuf, StableHlo.TRef.ofBuf, cast_eq]
  clean_types
  pointwise
  show 1#32 + BitVec.ofNat 32 k.val = _
  rw [Nat.add_comm, BitVec.ofNat_add]

theorem read_v29_1 (V : Valuation τ sig (Elt Ideal)) (v9 : S256x32x129.Idx → EReal)
    (h : V (Proc.devRef .tc main_v9) = v9) (k : Fin 255) (b : Fin 32) (s : Fin 129) :
    (after hostOps0_4 V (Proc.devRef .tc main_v29_1) : S255x32x129.Idx → EReal) (ix3 k b s) = v9 (ix3 ⟨1 + k.val, by omega⟩ b s) := by
  after_reads_simp
  rw [h]
  simp only [id_eq, StableHlo.TRef.toBuf, StableHlo.TRef.ofBuf, cast_eq]
  clean_types
  pointwise

theorem read_v29_2 (V : Valuation τ sig (Elt Ideal)) : after hostOps0_4 V (Proc.devRef .tc main_v29_2) = V (Proc.devRef .tc main_v18) := by
  after_reads_simp
  rfl
theorem read_v29_3 (V : Valuation τ sig (Elt Ideal)) : after hostOps0_4 V (Proc.devRef .tc main_v29_3) = V (Proc.devRef .tc main_arg4) := by
  after_reads_simp
  rfl
theorem read_v29_5 (V : Valuation τ sig (Elt Ideal)) : after hostOps0_4 V (Proc.devRef .tc main_v29_5) = V (Proc.devRef .tc main_v24) := by
  after_reads_simp
  rfl

section
variable (m : (ℓ : Loc nD τ sig) → Buf (Elt Ideal) ℓ) (c : Dev nD) (enc : S256x32x10000.Idx → EReal) (tgt : S32x64.Idx → BitVec 32)
  (henc : m ((c.tc : Thread nD τ).loc main_arg2) = enc) (htgt : m ((c.tc : Thread nD τ).loc main_arg3) = tgt)
  (ht : ∀ (b : Fin 32) (i : Fin 64), (tgt (ix2 b i)).toNat < 9999)

abbrev entry0 : Valuation τ sig (Elt Ideal) := fun b => m (c, b)
include henc htgt ht

theorem scores_entry (t : Fin 256) (b : Fin 32) (s : Fin 129) :
    (after hostOps0_1 (after hostOps0 (entry0 m c)) (Proc.devRef .tc main_v9) : S256x32x129.Idx → EReal) (ix3 t b s)
      = extScore enc tgt b t.val s.val := by
  have e8 := (congrFun (read_v8 (entry0 m c)) (ix3 t b s)).trans ((bcast_apply _ t b s).trans
    ((congrArg (fun w => targets2 w (ix2 b s)) htgt).trans (targets2_apply tgt b s)))
  have hr : (ext tgt b s.val).toNat < 10000 := by
    unfold ext
    split
    · decide
    · exact lt_trans (ht b _) (by decide)
  rw [read_v9 _ _ enc ((keep_main_arg2_hostOps0 _).trans henc) rfl t b s (by rw [e8]; exact hr)]
  unfold extScore blankScore labelScore
  rw [ofNat_val]
  have key : ∀ (w : BitVec 32) (hw : w.toNat < 10000), w = ext tgt b s.val →
      enc (ix3 t b ⟨w.toNat, hw⟩) = if s.val % 2 = 0 then enc (ix3 t b 9999)
        else enc (ix3 t b (Fin.ofNat 10000 (tgt (ix2 b (Fin.ofNat 64 (s.val / 2)))).toNat)) := by
    rintro _ hw rfl
    split
    · rename_i h0
      refine congrArg enc (congrArg (ix3 t b) (Fin.ext ?_))
      show (ext tgt b s.val).toNat = 9999
      rw [ext, if_pos h0]
      rfl
    · rename_i h0
      refine congrArg enc (congrArg (ix3 t b) (Fin.ext ?_))
      show (ext tgt b s.val).toNat = (tgt (ix2 b (Fin.ofNat 64 (s.val / 2)))).toNat % 10000
      rw [ext, if_neg h0, Nat.mod_eq_of_lt (lt_trans (ht b _) (by decide))]
  exact key _ _ e8

theorem entry_v29_1 (k : Fin 255) (b : Fin 32) (s : Fin 129) :
    (entryContents preI m c (Proc.devRef .tc main_v29_1) : S255x32x129.Idx → EReal) (ix3 k b s) = extScore enc tgt b (k.val + 1) s.val := by
  simp only [entryContents, afterL_cons, afterL_nil]
  rw [read_v29_1 _ _ ((keep_v9' _).trans (keep_v9 _)) k b s]
  rw [Nat.add_comm k.val 1]
  exact scores_entry m c enc tgt henc htgt ht ⟨1 + k.val, by omega⟩ b s

theorem entry_v29_2 (b : Fin 32) (s : Fin 129) :
    (entryContents preI m c (Proc.devRef .tc main_v29_2) : S32x129.Idx → BitVec 1) (ix2 b s)
      = BitVec.ofBool (decide (s.val % 2 = 1) && mayEnter tgt b (s.val / 2)) := by
  simp only [entryContents, afterL_cons, afterL_nil]
  rw [read_v29_2, keep_v18, read_v18_eq]
  refine skips_apply tgt _ (fun b s => ?_) ht b s
  rw [keep_v6, read_v6]
  exact (congrArg (fun w => targets2 w (ix2 b s)) htgt).trans (targets2_apply tgt b s)

theorem entry_v29_5 (b : Fin 32) (s : Fin 129) :
    (entryContents preI m c (Proc.devRef .tc main_v29_5) : S32x129.Idx → EReal) (ix2 b s)
      = if s.val < 2 then extScore enc tgt b 0 s.val else ⊥ := by
  simp only [entryContents, afterL_cons, afterL_nil]
  rw [read_v29_5, read_v24 _ _ _ rfl rfl (read_cst _) b s]
  rw [read_v21 _ b s, read_v23 _ _ rfl b s, WordCmp.select_ofBool,
    scores_entry m c enc tgt henc htgt ht 0 b s]
  by_cases h : s.val < 2 <;> simp [h]

end

theorem entry_v29_0 (m : (ℓ : Loc nD τ sig) → Buf (Elt Ideal) ℓ) (c : Dev nD) (k : Fin 255) :
    (entryContents preI m c (Proc.devRef .tc main_v29_0) : S255.Idx → BitVec 32) (ix1 k) = BitVec.ofNat 32 (k.val + 1) := by
  simp only [entryContents, afterL_cons, afterL_nil]
  exact read_v29_0 _ k

theorem entry_v29_3 (m : (ℓ : Loc nD τ sig) → Buf (Elt Ideal) ℓ) (c : Dev nD) :
    entryContents preI m c (Proc.devRef .tc main_v29_3) = m ((c.tc : Thread nD τ).loc main_arg4) := by
  simp only [entryContents, afterL_cons, afterL_nil]
  rw [read_v29_3, keep_main_arg4_hostOps0_3, keep_main_arg4_hostOps0_2, keep_main_arg4_hostOps0_1, keep_main_arg4_hostOps0]

end Cert.Proof

end
-- ==== Proof.RefOut.lean ====
/-
  What the reference returns, of the scores its loop leaves: half the smoothed loss and half the alignment loss, summed
  over the rows.
-/
module

public import proofs.«01_k».proof.Proof.RefGather
public import proofs.«01_k».proof.Proof.AttRow
public import Idealize.ShloMosaic.Lib.Tactic.CleanTypes

@[expose] public section

set_option maxRecDepth 16384

noncomputable section

namespace Cert.Proof

open Idealize.ShloMosaic Cert.ReferenceIdeal Cert.ReferenceIdeal.Gen Cert.ReferenceIdeal.Value

theorem select_or {α : Type} (a b : BitVec 32) (x y : α) :
    Scalar.select (IntOp.andi (IntOp.cmpi .ne a 0#32) (IntOp.cmpi .ne b 0#32)) x y = if a = 0#32 ∨ b = 0#32 then y else x := by
  have ha : IntOp.cmpi .ne a 0#32 = BitVec.ofBool (a != 0#32) := rfl
  have hb : IntOp.cmpi .ne b 0#32 = BitVec.ofBool (b != 0#32) := rfl
  have h : IntOp.andi (BitVec.ofBool (a != 0#32)) (BitVec.ofBool (b != 0#32)) = BitVec.ofBool ((a != 0#32) && (b != 0#32)) := by
    cases (a != 0#32) <;> cases (b != 0#32) <;> rfl
  rw [ha, hb, h, WordCmp.select_ofBool]
  by_cases h1 : a = 0#32 <;> by_cases h2 : b = 0#32 <;> simp [h1, h2]

theorem id_constant (w : BitVec 32) : (id (constant (F := Ideal) S_ .f32 w) : S_.Idx → EReal) ix0 = Ideal.ofBits .f32 w := rfl

/-- The last label's position in the doubled target, and the closing blank's. -/
theorem doubled (w : BitVec 32) (h1 : 1 ≤ w.toNat) (h2 : w.toNat ≤ 64) :
    (Scalar.select (IntOp.cmpi .slt (IntOp.muli 2#32 w) 0#32) (IntOp.addi (IntOp.muli 2#32 w) 129#32) (IntOp.muli 2#32 w)).toInt.toNat
      = 2 * w.toNat ∧
    (Scalar.select (IntOp.cmpi .slt (IntOp.subi (IntOp.muli 2#32 w) 1#32) 0#32)
      (IntOp.addi (IntOp.subi (IntOp.muli 2#32 w) 1#32) 129#32) (IntOp.subi (IntOp.muli 2#32 w) 1#32)).toInt.toNat = 2 * w.toNat - 1 := by
  obtain ⟨n, hn, rfl⟩ : ∃ n, n < 65 ∧ w = BitVec.ofNat 32 n := ⟨w.toNat, by omega, by simp⟩
  have hm : (BitVec.ofNat 32 n).toNat = n := by rw [BitVec.toNat_ofNat]; omega
  rw [hm] at h1 h2 ⊢
  have e1 : IntOp.muli 2#32 (BitVec.ofNat 32 n) = BitVec.ofNat 32 (2 * n) := by
    refine BitVec.eq_of_toNat_eq ?_
    show (2#32 * BitVec.ofNat 32 n).toNat = _
    rw [BitVec.toNat_mul]; simp
  have e2 : IntOp.subi (BitVec.ofNat 32 (2 * n)) 1#32 = BitVec.ofNat 32 (2 * n - 1) := by
    refine BitVec.eq_of_toNat_eq ?_
    show (BitVec.ofNat 32 (2 * n) - 1#32).toNat = _
    rw [BitVec.toNat_sub]; simp; omega
  have key : ∀ k : ℕ, k < 129 → (Scalar.select (IntOp.cmpi .slt (BitVec.ofNat 32 k) 0#32) (IntOp.addi (BitVec.ofNat 32 k) 129#32)
      (BitVec.ofNat 32 k)).toInt.toNat = k := by decide
  rw [e1, e2]
  exact ⟨key _ (by omega), key _ (by omega)⟩

/-- A sum over a row-major pair of coordinates is the double sum. -/
theorem sum_split (f : Fin 64 → Fin 10000 → EReal) :
    (∑ i : Fin 640000, f ⟨i.val / 10000, by omega⟩ ⟨i.val % 10000, by omega⟩) = ∑ t : Fin 64, ∑ v : Fin 10000, f t v := by
  rw [← Fintype.sum_prod_type']
  let e : Fin 640000 ≃ Fin 64 × Fin 10000 :=
    { toFun := fun i => (⟨i.val / 10000, by omega⟩, ⟨i.val % 10000, by omega⟩)
      invFun := fun p => ⟨p.1.val * 10000 + p.2.val, by omega⟩
      left_inv := fun i => Fin.ext (by simp only []; omega)
      right_inv := fun p => Prod.ext (Fin.ext (by simp only []; omega)) (Fin.ext (by simp only []; omega)) }
  exact Fintype.sum_equiv e _ (fun p : Fin 64 × Fin 10000 => f p.1 p.2) fun i => rfl

/-- The reference's result, of the scores the loop leaves. -/
theorem out_eq (V0 : Valuation τ sig (Elt Ideal)) (x : S32x64x10000.Idx → EReal) (lab : S32x64.Idx → BitVec 32)
    (al : S32x129.Idx → EReal) (tl : S32.Idx → BitVec 32)
    (hx : V0 (Proc.devRef .tc main_arg0) = x) (hlab : V0 (Proc.devRef .tc main_arg1) = lab)
    (hal : V0 (Proc.devRef .tc main_v29_5) = al) (htl : V0 (Proc.devRef .tc main_arg5) = tl)
    (hlen : ∀ b : Fin 32, 1 ≤ (tl (ix1 b)).toNat ∧ (tl (ix1 b)).toNat ≤ 64) :
    out_main_v85 V0 = fun _ => ∑ b : Fin 32,
      (((1 / 2 : ℝ) : EReal) * (∑ t : Fin 64, ∑ v : Fin 10000, longTerm (lab (ix2 b t)) (BitVec.ofNat 32 v.val) (x (ix3 b t v)))
        + ((1 / 2 : ℝ) : EReal) * -lae (al (ix2 b (Fin.ofNat 129 (2 * (tl (ix1 b)).toNat - 1)))) (al (ix2 b (Fin.ofNat 129 (2 * (tl (ix1 b)).toNat))))) := by
  funext j
  obtain rfl : j = ix0 := funext fun a => a.elim0
  unfold out_main_v85
  rw [hx, hlab, hal, htl]
  clean_types
  pointwise [gather_scores]
  simp only [ne_eq, not_true_eq_false, if_false, id_constant, Ideal.ofBits_zero_f32, Ideal.ofBits_one_f32, conf_div, smooth_div,
    ofBits_half, select_or, select_cmpi_eq]
  refine Finset.sum_congr rfl fun b _ => ?_
  obtain ⟨d1, d2⟩ := doubled (tl (ix1 b)) (hlen b).1 (hlen b).2
  have i1 : (⟨min (2 * (tl (ix1 b)).toNat - 1) 128, by omega⟩ : Fin 129) = Fin.ofNat 129 (2 * (tl (ix1 b)).toNat - 1) :=
    Fin.ext (by show min (2 * (tl (ix1 b)).toNat - 1) 128 = (2 * (tl (ix1 b)).toNat - 1) % 129; have := hlen b; omega)
  have i2 : (⟨min (2 * (tl (ix1 b)).toNat) 128, by omega⟩ : Fin 129) = Fin.ofNat 129 (2 * (tl (ix1 b)).toNat) :=
    Fin.ext (by show min (2 * (tl (ix1 b)).toNat) 128 = (2 * (tl (ix1 b)).toNat) % 129; have := hlen b; omega)
  simp only [d1, d2, i1, i2, lae_def]
  rw [← sum_split fun t v => longTerm (lab (ix2 b t)) (BitVec.ofNat 32 v.val) (x (ix3 b t v))]
  simp only [longTerm, target]

end Cert.Proof

end
-- ==== Proof.RefLoop.lean ====
/-
  The reference's loop: after `k` trips its scores are the forward recursion's after frame `k`, blanks at the even
  positions and labels at the odd ones.
-/
module

public import proofs.«01_k».proof.Proof.RefEntry
public import proofs.«01_k».proof.Proof.RefOut

@[expose] public section

set_option maxRecDepth 16384

noncomputable section

namespace Cert.Proof

open Idealize.ShloMosaic Cert.ReferenceIdeal Cert.ReferenceIdeal.Gen Cert.ReferenceIdeal.Value StableHlo

theorem ofBits_neg_inf : Ideal.ofBits .f32 0xFF800000#32 = (⊥ : EReal) := rfl

theorem select_parts {α : Type} {c c' : BitVec 1} {x x' y y' : α} (h1 : c = c') (h2 : x = x') (h3 : y = y') :
    Scalar.select c x y = Scalar.select c' x' y' := by rw [h1, h2, h3]

theorem at3 {α : Type} {n0 n1 n2 : ℕ} (x : (⟨3, ![n0, n1, n2]⟩ : Shape).Idx → α) {a a' : Fin n0} {b b' : Fin n1} {c c' : Fin n2}
    (h0 : a.val = a'.val) (h1 : b.val = b'.val) (h2 : c.val = c'.val) : x (ix3 a b c) = x (ix3 a' b' c') := by
  rw [Fin.ext h0, Fin.ext h1, Fin.ext h2]

theorem at1 {α : Type} {n0 : ℕ} (x : (⟨1, ![n0]⟩ : Shape).Idx → α) {a a' : Fin n0} (h0 : a.val = a'.val) : x (ix1 a) = x (ix1 a') := by
  rw [Fin.ext h0]

theorem toInt_small (k : ℕ) (h : k < 255) : (BitVec.ofNat 32 k).toInt = k := by
  have hn : (BitVec.ofNat 32 k).toNat = k := by rw [BitVec.toNat_ofNat]; omega
  rw [BitVec.toInt_eq_toNat_of_lt (by omega), hn]

theorem clamp1 (hr : S1.rank = S255.rank) (st : Fin S255.rank → Int) (k : Fin 255) (h : st 0 = (k.val : Int)) :
    Host.clampedStart S255 S1 hr st 0 = k.val := by
  have := k.isLt
  unfold Host.clampedStart
  show (min (max (st 0) 0) ((255 - 1 : ℕ) : Int)).toNat = k.val
  rw [h]
  omega
theorem clamp3 (hr : S1x32x129.rank = S255x32x129.rank) (st : Fin S255x32x129.rank → Int) (k : Fin 255) (h : st 0 = (k.val : Int)) :
    Host.clampedStart S255x32x129 S1x32x129 hr st 0 = k.val := by
  have := k.isLt
  unfold Host.clampedStart
  show (min (max (st 0) 0) ((255 - 1 : ℕ) : Int)).toNat = k.val
  rw [h]
  omega
theorem clamp3' (hr : S1x32x129.rank = S255x32x129.rank) (st : Fin S255x32x129.rank → Int) (n : ℕ) :
    Host.clampedStart S255x32x129 S1x32x129 hr st 1 + n = n := by
  unfold Host.clampedStart
  show (min (max (st 1) 0) ((32 - 32 : ℕ) : Int)).toNat + n = n
  omega
theorem clamp3'' (hr : S1x32x129.rank = S255x32x129.rank) (st : Fin S255x32x129.rank → Int) (n : ℕ) :
    Host.clampedStart S255x32x129 S1x32x129 hr st 2 + n = n := by
  unfold Host.clampedStart
  show (min (max (st 2) 0) ((129 - 129 : ℕ) : Int)).toNat + n = n
  omega

theorem step_apply (V : Valuation τ sig (Elt Ideal)) (fr : S255.Idx → BitVec 32) (tab : S255x32x129.Idx → EReal)
    (sk : S32x129.Idx → BitVec 1) (il : S32.Idx → BitVec 32) (k : Fin 255) (al : S32x129.Idx → EReal)
    (h0 : V (Proc.devRef .tc main_v29_0) = fr) (h1 : V (Proc.devRef .tc main_v29_1) = tab) (h2 : V (Proc.devRef .tc main_v29_2) = sk)
    (h3 : V (Proc.devRef .tc main_v29_3) = il) (h4 : V (Proc.devRef .tc main_v29_4) = fun _ => BitVec.ofNat 32 k.val)
    (h5 : V (Proc.devRef .tc main_v29_5) = al) (b : Fin 32) (s : Fin 129) :
    (step_main_v29_5 V : S32x129.Idx → EReal) (ix2 b s)
      = Scalar.select (IntOp.cmpi .slt (fr (ix1 k)) (il (ix1 b)))
          (lae (lae (al (ix2 b s)) (if h : s.val < 1 then ⊥ else al (ix2 b ⟨s.val - 1, by omega⟩)))
              (Scalar.select (sk (ix2 b s)) (if h : s.val < 2 then ⊥ else al (ix2 b ⟨s.val - 2, by omega⟩)) ⊥)
            + tab (ix3 k b s)) (al (ix2 b s)) := by
  unfold step_main_v29_5 res_main_while0b_v106 res_main_while0b_v104 res_main_while0b_v96 res_main_while0b_v94 res_main_while0b_v90
  rw [id_eq]
  clean_types
  pointwise
  rw [h0, h1, h2, h3, h5]
  simp only [ne_eq, not_true_eq_false, if_false, id_constant, ofBits_neg_inf, lae_def]
  rw [h4]
  have hk := toInt_small k.val k.isLt
  refine select_parts (congrArg (fun w => IntOp.cmpi .slt w (il (ix1 b))) (at1 fr ?_)) (congrArg (_ + ·) (at3 tab ?_ ?_ ?_)) rfl
  · dsimp only
    exact clamp1 _ _ k hk
  · dsimp only
    exact clamp3 _ _ k hk
  · dsimp only
    exact clamp3' _ _ b.val
  · dsimp only
    exact clamp3'' _ _ s.val

/-- The doubled target's scores, from the blanks' and the labels'. -/
def interleave (R : (ℕ → EReal) × (ℕ → EReal)) (s : ℕ) : EReal := if s % 2 = 0 then R.1 (s / 2) else R.2 (s / 2)

theorem interleave_step (enc : S256x32x10000.Idx → EReal) (tgt : S32x64.Idx → BitVec 32) (il : S32.Idx → BitVec 32) (b : Fin 32)
    (k s : ℕ) (R : (ℕ → EReal) × (ℕ → EReal)) (hR : rowScores enc tgt il b k = R) :
    Scalar.select (IntOp.cmpi .slt (BitVec.ofNat 32 (k + 1)) (il (ix1 b)))
        (lae (lae (interleave R s) (if s < 1 then ⊥ else interleave R (s - 1)))
            (Scalar.select (BitVec.ofBool (decide (s % 2 = 1) && mayEnter tgt b (s / 2))) (if s < 2 then ⊥ else interleave R (s - 2)) ⊥)
          + extScore enc tgt b (k + 1) s) (interleave R s)
      = interleave (rowScores enc tgt il b (k + 1)) s := by
  have e : rowScores enc tgt il b (k + 1) = _ := scores_succ _ _ _ _ k
  rw [e]
  change rowScores enc tgt il b k = R at hR
  unfold rowScores at hR
  rw [hR]
  rw [show IntOp.cmpi .slt (BitVec.ofNat 32 (k + 1)) (il (ix1 b)) = BitVec.ofBool (inside il b (k + 1)) from rfl]
  rw [WordCmp.select_ofBool, WordCmp.select_ofBool]
  rcases Nat.even_or_odd' s with ⟨i, rfl | rfl⟩
  · have a1 : 2 * i % 2 = 0 := by omega
    have a2 : 2 * i / 2 = i := by omega
    have a3 : (if 2 * i < 1 then ⊥ else interleave R (2 * i - 1)) = before R.2 i := by
      unfold before interleave
      by_cases hi : i = 0
      · rw [if_pos (by omega), if_pos hi]
      · rw [if_neg (by omega), if_neg hi, if_neg (by omega), show (2 * i - 1) / 2 = i - 1 by omega]
    rw [a3]
    have a4 : (decide (2 * i % 2 = 1) && mayEnter tgt b (2 * i / 2)) = false := by rw [a1]; rfl
    rw [a4]
    simp only [Bool.false_eq_true, if_false, lae_bot_right, interleave, extScore, a1, a2, if_true]
  · have a1 : ¬ ((2 * i + 1) % 2 = 0) := by omega
    have a1' : (2 * i + 1) % 2 = 1 := by omega
    have a2 : (2 * i + 1) / 2 = i := by omega
    have a3 : (if 2 * i + 1 < 1 then ⊥ else interleave R (2 * i + 1 - 1)) = R.1 i := by
      unfold interleave
      rw [if_neg (by omega), if_pos (by omega), show (2 * i + 1 - 1) / 2 = i by omega]
    have a5 : (if 2 * i + 1 < 2 then ⊥ else interleave R (2 * i + 1 - 2)) = before R.2 i := by
      unfold before interleave
      by_cases hi : i = 0
      · rw [if_pos (by omega), if_pos hi]
      · rw [if_neg (by omega), if_neg hi, if_neg (by omega), show (2 * i + 1 - 2) / 2 = i - 1 by omega]
    rw [a3, a5, a1', a2]
    simp only [interleave, extScore, a1, a2, if_false, decide_true, Bool.true_and]

section
variable (m : (ℓ : Loc nD τ sig) → Buf (Elt Ideal) ℓ) (c : Dev nD) (enc : S256x32x10000.Idx → EReal) (tgt : S32x64.Idx → BitVec 32)
  (il : S32.Idx → BitVec 32)
  (henc : m ((c.tc : Thread nD τ).loc main_arg2) = enc) (htgt : m ((c.tc : Thread nD τ).loc main_arg3) = tgt)
  (hil : m ((c.tc : Thread nD τ).loc main_arg4) = il)
  (ht : ∀ (b : Fin 32) (i : Fin 64), (tgt (ix2 b i)).toNat < 9999)
include henc htgt hil ht

theorem loop_inv (k : ℕ) (hk : k ≤ 255) :
    (STEP^[k] (entryContents preI m c)) (Proc.devRef .tc main_v29_0) = entryContents preI m c (Proc.devRef .tc main_v29_0) ∧
    (STEP^[k] (entryContents preI m c)) (Proc.devRef .tc main_v29_1) = entryContents preI m c (Proc.devRef .tc main_v29_1) ∧
    (STEP^[k] (entryContents preI m c)) (Proc.devRef .tc main_v29_2) = entryContents preI m c (Proc.devRef .tc main_v29_2) ∧
    (STEP^[k] (entryContents preI m c)) (Proc.devRef .tc main_v29_3) = entryContents preI m c (Proc.devRef .tc main_v29_3) ∧
    (STEP^[k] (entryContents preI m c)) (Proc.devRef .tc main_v29_4) = (fun _ => BitVec.ofNat 32 k : S_.Idx → BitVec 32) ∧
    ∀ (b : Fin 32) (s : Fin 129), ((STEP^[k] (entryContents preI m c)) (Proc.devRef .tc main_v29_5) : S32x129.Idx → EReal) (ix2 b s)
      = interleave (rowScores enc tgt il b k) s.val := by
  induction k with
  | zero =>
    refine ⟨rfl, rfl, rfl, rfl, ctr_entry m c, fun b s => ?_⟩
    refine (entry_v29_5 m c enc tgt henc htgt ht b s).trans ?_
    show _ = interleave (scores (blankScore enc b) (labelScore enc tgt b) (mayEnter tgt b) (inside il b) 0) s.val
    unfold interleave scores extScore
    by_cases h : s.val < 2
    · have : s.val / 2 = 0 := by omega
      rw [if_pos h, this]
      rfl
    · have : s.val / 2 ≠ 0 := by omega
      rw [if_neg h]
      simp only [this, if_false, ite_self]
  | succ k ih =>
    obtain ⟨i0, i1, i2, i3, i4, i5⟩ := ih (by omega)
    rw [Function.iterate_succ_apply']
    refine ⟨(STEP_main_v29_0 _).trans i0, (STEP_main_v29_1 _).trans i1, (STEP_main_v29_2 _).trans i2, (STEP_main_v29_3 _).trans i3,
      (STEP_main_v29_4 _).trans ?_, fun b s => ?_⟩
    · funext j
      unfold step_main_v29_4
      rw [i4]
      exact (BitVec.ofNat_add k 1).symm
    · refine (congrFun (STEP_main_v29_5 _) (ix2 b s)).trans ?_
      refine (step_apply _ _ _ _ _ ⟨k, by omega⟩ _ i0 i1 i2 i3 i4 rfl b s).trans ?_
      refine Eq.trans ?_ (interleave_step enc tgt il b k s.val _ rfl)
      refine select_parts ?_ (congrArg₂ (· + ·) (congrArg₂ lae (congrArg₂ lae (i5 b s) ?_) (select_parts ?_ ?_ rfl)) ?_) (i5 b s)
      · exact congrArg₂ (IntOp.cmpi .slt) (entry_v29_0 m c ⟨k, by omega⟩) (congrFun ((entry_v29_3 m c).trans hil) (ix1 b))
      · by_cases h : s.val < 1
        · rw [dif_pos h, if_pos h]
        · rw [dif_neg h, if_neg h]
          exact i5 b ⟨s.val - 1, by omega⟩
      · exact entry_v29_2 m c enc tgt henc htgt ht b s
      · by_cases h : s.val < 2
        · rw [dif_pos h, if_pos h]
        · rw [dif_neg h, if_neg h]
          exact i5 b ⟨s.val - 2, by omega⟩
      · exact entry_v29_1 m c enc tgt henc htgt ht ⟨k, by omega⟩ b s

end

/-- The reference's result, of its arguments. -/
theorem reference_value (m : (ℓ : Loc nD τ sig) → Buf (Elt Ideal) ℓ) (c : Dev nD) (x : S32x64x10000.Idx → EReal)
    (lab : S32x64.Idx → BitVec 32) (enc : S256x32x10000.Idx → EReal) (tgt : S32x64.Idx → BitVec 32) (il tl : S32.Idx → BitVec 32)
    (hx : m ((c.tc : Thread nD τ).loc main_arg0) = x) (hlab : m ((c.tc : Thread nD τ).loc main_arg1) = lab)
    (henc : m ((c.tc : Thread nD τ).loc main_arg2) = enc) (htgt : m ((c.tc : Thread nD τ).loc main_arg3) = tgt)
    (hil : m ((c.tc : Thread nD τ).loc main_arg4) = il) (htl : m ((c.tc : Thread nD τ).loc main_arg5) = tl)
    (ht : ∀ (b : Fin 32) (i : Fin 64), (tgt (ix2 b i)).toNat < 9999)
    (hlen : ∀ b : Fin 32, 1 ≤ (tl (ix1 b)).toNat ∧ (tl (ix1 b)).toNat ≤ 64) :
    out_main_v85 (STEP^[255] (entryContents preI m c)) = fun _ => ∑ b : Fin 32,
      (((1 / 2 : ℝ) : EReal) * (∑ t : Fin 64, ∑ v : Fin 10000, longTerm (lab (ix2 b t)) (BitVec.ofNat 32 v.val) (x (ix3 b t v)))
        + ((1 / 2 : ℝ) : EReal) * rowLoss enc tgt il tl b) := by
  rw [out_eq _ x lab _ tl ((iter_main_arg0 m c 255).trans hx) ((iter_main_arg1 m c 255).trans hlab) rfl ((iter_main_arg5 m c 255).trans htl) hlen]
  funext _
  refine Finset.sum_congr rfl fun b _ => congrArg (_ + ·) (congrArg (_ * ·) ?_)
  have inv := (loop_inv m c enc tgt il henc htgt hil ht 255 le_rfl).2.2.2.2.2 b
  unfold rowLoss
  obtain ⟨n1, n2⟩ := hlen b
  refine congrArg (fun z => -z) (congrArg₂ lae ((inv _).trans ?_) ((inv _).trans ?_))
  · unfold interleave
    rw [Fin.val_ofNat, Nat.mod_eq_of_lt (show 2 * (tl (ix1 b)).toNat - 1 < 129 by omega), if_neg (by omega), show (2 * (tl (ix1 b)).toNat - 1) / 2 = (tl (ix1 b)).toNat - 1 by omega]
  · unfold interleave
    rw [Fin.val_ofNat, Nat.mod_eq_of_lt (show 2 * (tl (ix1 b)).toNat < 129 by omega), if_pos (by omega), show (2 * (tl (ix1 b)).toNat) / 2 = (tl (ix1 b)).toNat by omega]

end Cert.Proof

end
-- ==== Proof.Algebraic.lean ====
/-
  The algebraic claim: what the ranges give of the launch memory, and the kernel's closed form against the reference's.
  The kernel sums the cross entropy over all rows and the alignment loss over the batch, halves each and adds; the reference
  halves and adds per batch member and sums last.
-/
module

public import proofs.«01_k».proof.Proof.Frames
public import proofs.«01_k».proof.Proof.KernelValue
public import proofs.«01_k».proof.Proof.RefLoop

@[expose] public section

noncomputable section

namespace Cert.Proof

open Idealize.ShloMosaic Idealize.SL.Sem

instance preR : Cert.Pre_in_range.Facts := ⟨by decide, by decide, by decide⟩

/-! ## What the ranges give -/

/-- An extended real of absolute value below infinity is a real. -/
theorem real_of_cmp {a : Ideal .f32}
    (e : FloatOps.cmpf .olt (FloatOps.absf a) (Scalar.ofBits (F := Ideal) .f32 0x7F800000#32) = 1#1) : ∃ r : ℝ, a = (r : EReal) := by
  have hb : (Scalar.ofBits (F := Ideal) .f32 0x7F800000#32) = (⊤ : EReal) := rfl
  rw [hb, Ideal.cmpf_def, Ideal.absf_def] at e
  simp only [Ideal.cmp, ofBool_eq_one, decide_eq_true_eq] at e
  have h1 : a < (⊤ : EReal) := lt_of_le_of_lt (le_max_left _ _) e
  have h2 : -a < (⊤ : EReal) := lt_of_le_of_lt (le_max_right _ _) e
  refine ⟨EReal.toReal a, (EReal.coe_toReal h1.ne ?_).symm⟩
  intro h
  rw [h] at h2
  exact absurd h2 (by simp)

section Ranges

variable {x : Cert.Pre_in_range.S32x64x10000.Idx → EReal} {lab tgt : Cert.Pre_in_range.S32x64.Idx → BitVec 32}
  {enc : Cert.Pre_in_range.S256x32x10000.Idx → EReal} {il tl : Cert.Pre_in_range.S32.Idx → BitVec 32}

theorem labels_lt (h : (Cert.Pre_in_range.fn (F := Ideal) x lab enc tgt il tl).1 = fun _ => 1#1) (i) : (lab i).toNat < 10000 := by
  have e := congrFun h i
  simp only [Cert.Pre_in_range.fn, Cert.Pre_in_range.fn_part1, andi, cmpi, broadcastInDim, constantI] at e
  exact lt_of_cmp' e

theorem targets_lt (h : (Cert.Pre_in_range.fn (F := Ideal) x lab enc tgt il tl).2.1 = fun _ => 1#1) (i) : (tgt i).toNat < 9999 := by
  have e := congrFun h i
  simp only [Cert.Pre_in_range.fn, Cert.Pre_in_range.fn_part1, andi, cmpi, broadcastInDim, constantI] at e
  exact lt_of_cmp e

theorem lengths_in (h : (Cert.Pre_in_range.fn (F := Ideal) x lab enc tgt il tl).2.2.1 = fun _ => 1#1) (i) :
    1 ≤ (tl i).toNat ∧ (tl i).toNat ≤ 64 := by
  have e := congrFun h i
  simp only [Cert.Pre_in_range.fn, Cert.Pre_in_range.fn_part1, andi, cmpi, broadcastInDim, constantI] at e
  exact len_of_cmp e

theorem entries_real (h : (Cert.Pre_in_range.fn (F := Ideal) x lab enc tgt il tl).2.2.2 = fun _ => 1#1) (i) : ∃ r : ℝ, x i = (r : EReal) := by
  have e := congrFun h i
  simp only [Cert.Pre_in_range.fn, Cert.Pre_in_range.fn_part1] at e
  exact real_of_cmp e

end Ranges

theorem targets_of_range (m : (ℓ : Loc Cert.KernelIdeal.nD Cert.KernelIdeal.τ Cert.KernelIdeal.sig) → Buf (Elt Ideal) ℓ)
    (h : Cert.Pre_KernelIdeal_in_range m) (i : Cert.KernelIdeal.S32x64.Idx) :
    (m ((0 : Dev Cert.KernelIdeal.nD), Proc.devRef .tc Cert.KernelIdeal.main_arg3) i : BitVec 32).toNat < 10000 :=
  (targets_lt (h 0).2.1 i).trans (by decide)

/-- `Cert.quiescent_KernelIdeal_pre_in_range` (Defs.lean). -/
theorem frame_i' : Cert.quiescent_KernelIdeal_pre_in_range := fun m ρ hpre =>
  (θ_run Cert.KernelIdeal.defs _ _).mono (fun _ h => ⟨fun c => OfKernelIdeal.QC_args m h c, h.2⟩)
    (OfKernelIdeal.run_main (F := Ideal) m ρ (targets_of_range m hpre))

/-- `Cert.quiescent_ReferenceIdeal_pre_in_range` (Defs.lean). -/
theorem frame_r' : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The two closed forms -/

/-- A half of a sum is the sum of the halves, infinite terms included. -/
theorem half_sum {n : ℕ} (f : Fin n → EReal) : ((1 / 2 : ℝ) : EReal) * ∑ b, f b = ∑ b, ((1 / 2 : ℝ) : EReal) * f b := by
  induction n with
  | zero => rw [Finset.univ_eq_empty, Finset.sum_empty, Finset.sum_empty, mul_zero]
  | succ n ih =>
    rw [Fin.sum_univ_castSucc, Fin.sum_univ_castSucc, EReal.left_distrib_of_nonneg_of_ne_top (by exact_mod_cast (by norm_num : (0:ℝ) ≤ 1 / 2)) (EReal.coe_ne_top _), ih]

theorem forms_eq (x : Cert.KernelIdeal.S32x64x10000.Idx → EReal) (lab : Cert.KernelIdeal.S32x64.Idx → BitVec 32)
    (hx : ∀ i, ∃ r : ℝ, x i = (r : EReal)) (hlab : ∀ i, (lab i).toNat < 10000) (loss : Fin 32 → EReal) :
    ((1 / 2 : ℝ) : EReal) * (∑ b : Fin 32, ∑ s : Fin 64, shortRow (lab (ix2 b s)) (fun v => x (ix3 b s v)))
        + ((1 / 2 : ℝ) : EReal) * ∑ b : Fin 32, loss b
      = ∑ b : Fin 32, (((1 / 2 : ℝ) : EReal) * (∑ t : Fin 64, ∑ v : Fin 10000, longTerm (lab (ix2 b t)) (BitVec.ofNat 32 v.val) (x (ix3 b t v)))
        + ((1 / 2 : ℝ) : EReal) * loss b) := by
  choose r hr using hx
  have h : ∀ (b : Fin 32) (t : Fin 64), shortRow (lab (ix2 b t)) (fun v => x (ix3 b t v))
      = ∑ v : Fin 10000, longTerm (lab (ix2 b t)) (BitVec.ofNat 32 v.val) (x (ix3 b t v)) := by
    intro b t
    have e := row_eq (lab (ix2 b t)) (hlab _) (fun v => r (ix3 b t v))
    simp only [hr]
    exact e.symm
  simp only [h]
  rw [half_sum, half_sum, ← Finset.sum_add_distrib]

/-- `Cert.algebraic_KernelIdeal_ReferenceIdeal_pre_in_range` (Defs.lean). -/
theorem algebraic : Cert.algebraic_KernelIdeal_ReferenceIdeal_pre_in_range := fun m ρ m' ρ' hpre hargs => by
  refine ⟨fun c => OfKernelIdeal.V7 m c (Proc.devRef .tc Cert.KernelIdeal.main_v17), ?_, ?_⟩
  · exact (θ_run Cert.KernelIdeal.defs _ _).mono
      (fun _ h c => ⟨h.1 c _ (OfKernelIdeal.mem_uc (r := Cert.KernelIdeal.main_v17) rfl), OfKernelIdeal.QC_args m h c⟩)
      (OfKernelIdeal.run_main (F := Ideal) m ρ (targets_of_range m hpre))
  · refine (θ_run Cert.ReferenceIdeal.defs _ _).mono (fun _ h c => ⟨(h c).1.trans ?_, (h c).2⟩)
      (Cert.ReferenceIdeal.Value.run (F := Ideal) m' ρ')
    obtain ⟨hl, ht, hn, hf⟩ := hpre c
    obtain ⟨a0, a1, a2, a3, a4, a5⟩ := hargs c
    refine (reference_value m' c _ _ _ _ _ _ a0 a1 a2 a3 a4 a5 (fun b i => targets_lt ht _) (fun b => lengths_in hn _)).trans
      (Eq.trans ?_ (kernel_value m c _ _ _ _ _ _ rfl rfl rfl rfl rfl rfl (fun b i => (targets_lt ht _).trans (by decide))
        (fun b => lengths_in hn _)).symm)
    funext _
    exact (forms_eq _ _ (entries_real hf) (labels_lt hl) _).symm

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, preT, preR, frame_k, frame_i, frame_i', frame_r, frame_r',
   preserves, algebraic⟩

end Cert.Proof

end
